-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x30x96 : Shape := ⟨4, ![3, 512, 30, 96]⟩
abbrev S30 : Shape := ⟨1, ![30]⟩
abbrev S3x512x6x96 : Shape := ⟨4, ![3, 512, 6, 96]⟩
abbrev S6 : Shape := ⟨1, ![6]⟩
abbrev S6x96 : Shape := ⟨2, ![6, 96]⟩
abbrev S_ : Shape := ⟨0, ![]⟩
abbrev S6x5 : Shape := ⟨2, ![6, 5]⟩
abbrev S6x1 : Shape := ⟨2, ![6, 1]⟩
abbrev S6x1x96 : Shape := ⟨3, ![6, 1, 96]⟩
abbrev S3x512x6x5x96 : Shape := ⟨5, ![3, 512, 6, 5, 96]⟩
abbrev S3x6x5x512x96 : Shape := ⟨5, ![3, 6, 5, 512, 96]⟩
abbrev S3x6x512x96 : Shape := ⟨4, ![3, 6, 512, 96]⟩
abbrev S1 : Shape := ⟨1, ![1]⟩
abbrev S1x1x5x512x96 : Shape := ⟨5, ![1, 1, 5, 512, 96]⟩
abbrev S1x1x512x96 : Shape := ⟨4, ![1, 1, 512, 96]⟩
abbrev S1x1x96 : Shape := ⟨3, ![1, 1, 96]⟩
abbrev S128x128 : Shape := ⟨2, ![128, 128]⟩
abbrev S1x1x1x128x96 : Shape := ⟨5, ![1, 1, 1, 128, 96]⟩
abbrev S128x96 : Shape := ⟨2, ![128, 96]⟩
abbrev S1x1x128x96 : Shape := ⟨4, ![1, 1, 128, 96]⟩
abbrev S1x1 : Shape := ⟨2, ![1, 1]⟩
abbrev S96 : Shape := ⟨1, ![96]⟩
abbrev S1x96 : Shape := ⟨2, ![1, 96]⟩
abbrev S128x256 : Shape := ⟨2, ![128, 256]⟩
abbrev S1x1x256x96 : Shape := ⟨4, ![1, 1, 256, 96]⟩
abbrev S256x96 : Shape := ⟨2, ![256, 96]⟩
abbrev S3x512x2880 : Shape := ⟨3, ![3, 512, 2880]⟩

abbrev nBuf : Space → Nat
  | .hbm => 25
  | .vmem => 10
  | .smem => 2
  | _ => 0

abbrev bufTy : (tb : Table) → Fin (tcTables nBuf tb) → BufTy
  | .hbm, ⟨0, _⟩ => ⟨S3x512x30x96, .fp8e4m3⟩
  | .hbm, ⟨1, _⟩ => ⟨S30, .f32⟩
  | .hbm, ⟨2, _⟩ => ⟨S3x512x6x96, .fp8e4m3⟩
  | .hbm, ⟨3, _⟩ => ⟨S6, .f32⟩
  | .hbm, ⟨4, _⟩ => ⟨S3x512x6x96, .fp8e4m3⟩
  | .hbm, ⟨5, _⟩ => ⟨S6x96, .f32⟩
  | .hbm, ⟨6, _⟩ => ⟨S_, .f32⟩
  | .hbm, ⟨7, _⟩ => ⟨S6x5, .f32⟩
  | .hbm, ⟨8, _⟩ => ⟨S6x1, .f32⟩
  | .hbm, ⟨9, _⟩ => ⟨S6x5, .f32⟩
  | .hbm, ⟨10, _⟩ => ⟨S6x5, .f32⟩
  | .hbm, ⟨11, _⟩ => ⟨S_, .f32⟩
  | .hbm, ⟨12, _⟩ => ⟨S6x5, .f32⟩
  | .hbm, ⟨13, _⟩ => ⟨S6x5, .f32⟩
  | .hbm, ⟨14, _⟩ => ⟨S6x96, .f32⟩
  | .hbm, ⟨15, _⟩ => ⟨S6x96, .f32⟩
  | .hbm, ⟨16, _⟩ => ⟨S6x1x96, .f32⟩
  | .hbm, ⟨17, _⟩ => ⟨S3x512x6x5x96, .fp8e4m3⟩
  | .hbm, ⟨18, _⟩ => ⟨S3x6x5x512x96, .fp8e4m3⟩
  | .hbm, ⟨19, _⟩ => ⟨S3x6x512x96, .fp8e4m3⟩
  | .hbm, ⟨20, _⟩ => ⟨S3x6x512x96, .fp8e4m3⟩
  | .hbm, ⟨21, _⟩ => ⟨S1, .f32⟩
  | .hbm, ⟨22, _⟩ => ⟨S3x6x5x512x96, .bf16⟩
  | .hbm, ⟨23, _⟩ => ⟨S3x512x6x5x96, .bf16⟩
  | .hbm, ⟨24, _⟩ => ⟨S3x512x2880, .bf16⟩
  | .local _ .vmem, ⟨0, _⟩ => ⟨S1x1x5x512x96, .fp8e4m3⟩
  | .local _ .vmem, ⟨1, _⟩ => ⟨S1x1x5x512x96, .fp8e4m3⟩
  | .local _ .vmem, ⟨2, _⟩ => ⟨S1x1x512x96, .fp8e4m3⟩
  | .local _ .vmem, ⟨3, _⟩ => ⟨S1x1x512x96, .fp8e4m3⟩
  | .local _ .vmem, ⟨4, _⟩ => ⟨S1x1x512x96, .fp8e4m3⟩
  | .local _ .vmem, ⟨5, _⟩ => ⟨S1x1x512x96, .fp8e4m3⟩
  | .local _ .vmem, ⟨6, _⟩ => ⟨S1x1x96, .f32⟩
  | .local _ .vmem, ⟨7, _⟩ => ⟨S1x1x96, .f32⟩
  | .local _ .vmem, ⟨8, _⟩ => ⟨S1x1x5x512x96, .bf16⟩
  | .local _ .vmem, ⟨9, _⟩ => ⟨S1x1x5x512x96, .bf16⟩
  | .local _ .smem, ⟨0, _⟩ => ⟨S6x5, .f32⟩
  | .local _ .smem, ⟨1, _⟩ => ⟨S1, .f32⟩
  | _, _ => ⟨S3x512x30x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![3, 6], ![false, false]⟩

def k0_off1 (i : grid0.Coords) : Fin 2 → Nat :=
  let arg1 : BitVec 32 := BitVec.ofNat 32 (i 1).val
  let v12 : Index := Scalar.indexCast arg1
  let c0_10 : Index := 0#32
  ![v12.toNat, 0]
def k0_off2 (i : grid0.Coords) : Fin 2 → Nat :=
  let arg1 : BitVec 32 := BitVec.ofNat 32 (i 1).val
  let v47 : Index := Scalar.indexCast arg1
  let c1_37 : Index := 1#32
  ![v47.toNat, 1]
def k0_off3 (i : grid0.Coords) : Fin 2 → Nat :=
  let arg1 : BitVec 32 := BitVec.ofNat 32 (i 1).val
  let v82 : Index := Scalar.indexCast arg1
  let c2_64 : Index := 2#32
  ![v82.toNat, 2]
def k0_off4 (i : grid0.Coords) : Fin 2 → Nat :=
  let arg1 : BitVec 32 := BitVec.ofNat 32 (i 1).val
  let v117 : Index := Scalar.indexCast arg1
  let c3_91 : Index := 3#32
  ![v117.toNat, 3]
def k0_off5 (i : grid0.Coords) : Fin 2 → Nat :=
  let arg1 : BitVec 32 := BitVec.ofNat 32 (i 1).val
  let v152 : Index := Scalar.indexCast arg1
  let c4_118 : Index := 4#32
  ![v152.toNat, 4]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 1 → Memref sig .tc .smem S6x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x5x512x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x96 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x96 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x5x512x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S3x512x30x96 : Shape := ⟨4, ![3, 512, 30, 96]⟩
abbrev S30 : Shape := ⟨1, ![30]⟩
abbrev S3x512x6x96 : Shape := ⟨4, ![3, 512, 6, 96]⟩
abbrev S6 : Shape := ⟨1, ![6]⟩
abbrev S6x96 : Shape := ⟨2, ![6, 96]⟩
abbrev S_ : Shape := ⟨0, ![]⟩
abbrev S6x5 : Shape := ⟨2, ![6, 5]⟩
abbrev S6x1 : Shape := ⟨2, ![6, 1]⟩
abbrev S3x30x512x96 : Shape := ⟨4, ![3, 30, 512, 96]⟩
abbrev S90x512x96 : Shape := ⟨3, ![90, 512, 96]⟩
abbrev S3x512x6x5x96 : Shape := ⟨5, ![3, 512, 6, 5, 96]⟩
abbrev S3x30 : Shape := ⟨2, ![3, 30]⟩
abbrev S90x1x1 : Shape := ⟨3, ![90, 1, 1]⟩
abbrev S6x5x96 : Shape := ⟨3, ![6, 5, 96]⟩
abbrev S30x96 : Shape := ⟨2, ![30, 96]⟩
abbrev S3x30x96 : Shape := ⟨3, ![3, 30, 96]⟩
abbrev S90x1x96 : Shape := ⟨3, ![90, 1, 96]⟩
abbrev S1x1x1 : Shape := ⟨3, ![1, 1, 1]⟩
abbrev S90x512x512 : Shape := ⟨3, ![90, 512, 512]⟩
abbrev S1x512 : Shape := ⟨2, ![1, 512]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩
abbrev S3x512x2880 : Shape := ⟨3, ![3, 512, 2880]⟩

abbrev nBuf : Space → Nat
  | .hbm => 38
  | .vmem => 7
  | .smem => 0
  | _ => 0

abbrev bufTy : (tb : Table) → Fin (tcTables nBuf tb) → BufTy
  | .hbm, ⟨0, _⟩ => ⟨S3x512x30x96, .fp8e4m3⟩
  | .hbm, ⟨1, _⟩ => ⟨S30, .f32⟩
  | .hbm, ⟨2, _⟩ => ⟨S3x512x6x96, .fp8e4m3⟩
  | .hbm, ⟨3, _⟩ => ⟨S6, .f32⟩
  | .hbm, ⟨4, _⟩ => ⟨S3x512x6x96, .fp8e4m3⟩
  | .hbm, ⟨5, _⟩ => ⟨S6x96, .f32⟩
  | .hbm, ⟨6, _⟩ => ⟨S_, .f32⟩
  | .hbm, ⟨7, _⟩ => ⟨S6x5, .f32⟩
  | .hbm, ⟨8, _⟩ => ⟨S6x1, .f32⟩
  | .hbm, ⟨9, _⟩ => ⟨S6x5, .f32⟩
  | .hbm, ⟨10, _⟩ => ⟨S6x5, .f32⟩
  | .hbm, ⟨11, _⟩ => ⟨S_, .f32⟩
  | .hbm, ⟨12, _⟩ => ⟨S6x5, .f32⟩
  | .hbm, ⟨13, _⟩ => ⟨S6x5, .f32⟩
  | .hbm, ⟨14, _⟩ => ⟨S6x96, .f32⟩
  | .hbm, ⟨15, _⟩ => ⟨S6x96, .f32⟩
  | .hbm, ⟨16, _⟩ => ⟨S3x30x512x96, .fp8e4m3⟩
  | .hbm, ⟨17, _⟩ => ⟨S90x512x96, .fp8e4m3⟩
  | .hbm, ⟨18, _⟩ => ⟨S3x512x6x5x96, .fp8e4m3⟩
  | .hbm, ⟨19, _⟩ => ⟨S3x512x30x96, .fp8e4m3⟩
  | .hbm, ⟨20, _⟩ => ⟨S3x30x512x96, .fp8e4m3⟩
  | .hbm, ⟨21, _⟩ => ⟨S90x512x96, .fp8e4m3⟩
  | .hbm, ⟨22, _⟩ => ⟨S3x512x6x5x96, .fp8e4m3⟩
  | .hbm, ⟨23, _⟩ => ⟨S3x512x30x96, .fp8e4m3⟩
  | .hbm, ⟨24, _⟩ => ⟨S3x30x512x96, .fp8e4m3⟩
  | .hbm, ⟨25, _⟩ => ⟨S90x512x96, .fp8e4m3⟩
  | .hbm, ⟨26, _⟩ => ⟨S30, .f32⟩
  | .hbm, ⟨27, _⟩ => ⟨S3x30, .f32⟩
  | .hbm, ⟨28, _⟩ => ⟨S90x1x1, .f32⟩
  | .hbm, ⟨29, _⟩ => ⟨S6x5x96, .f32⟩
  | .hbm, ⟨30, _⟩ => ⟨S30x96, .f32⟩
  | .hbm, ⟨31, _⟩ => ⟨S3x30x96, .f32⟩
  | .hbm, ⟨32, _⟩ => ⟨S90x1x96, .f32⟩
  | .hbm, ⟨33, _⟩ => ⟨S1x1x1, .f32⟩
  | .hbm, ⟨34, _⟩ => ⟨S90x512x96, .bf16⟩
  | .hbm, ⟨35, _⟩ => ⟨S3x30x512x96, .bf16⟩
  | .hbm, ⟨36, _⟩ => ⟨S3x512x30x96, .bf16⟩
  | .hbm, ⟨37, _⟩ => ⟨S3x512x2880, .bf16⟩
  | .local _ .vmem, ⟨0, _⟩ => ⟨S90x512x96, .fp8e4m3⟩
  | .local _ .vmem, ⟨1, _⟩ => ⟨S90x512x96, .fp8e4m3⟩
  | .local _ .vmem, ⟨2, _⟩ => ⟨S90x512x96, .fp8e4m3⟩
  | .local _ .vmem, ⟨3, _⟩ => ⟨S90x1x1, .f32⟩
  | .local _ .vmem, ⟨4, _⟩ => ⟨S1x1x1, .f32⟩
  | .local _ .vmem, ⟨5, _⟩ => ⟨S90x1x96, .f32⟩
  | .local _ .vmem, ⟨6, _⟩ => ⟨S90x512x96, .bf16⟩
  | _, _ => ⟨S3x512x30x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S90x512x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S90x512x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S90x512x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S90x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S90x1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S90x512x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Attend.lean ====
/-
  The mathematics both programs compute, on the extended reals: one head of sigmoid attention under a causal window of 128
  columns, its weights clipped to the range of the 8-bit format before they multiply the values. No program is mentioned here.
-/
module

public import Idealize.ShloMosaic.Lib.ValueIdx

@[expose] public section

noncomputable section

open scoped BigOperators

namespace Cert.Attend

open Idealize.ShloMosaic

/-- The word both programs add to every scaled score, as an extended real (about `-log 128`). -/
def bias : EReal := Ideal.ofBits .f32 0xC09B43D5#32

/-- The largest value of the 8-bit format, the upper end of the clip (448). -/
def cap : EReal := Ideal.ofBits .f32 0x43E00000#32

/-- The numerator of the inverse scale (1). -/
def one : EReal := Ideal.ofBits .f32 0x3F800000#32

/-- The word of positive zero is the extended real zero. -/
theorem zero_word : Ideal.ofBits .f32 0x00000000#32 = 0 := by simp [Ideal.ofBits, Ideal.ieee]

/-- The upper end of the clip is not negative. -/
theorem cap_nonneg : (0 : EReal) ≤ cap := by
  unfold cap
  simp only [Ideal.ofBits, Ideal.ieee]
  simp
  rw [← EReal.coe_mul]
  exact EReal.coe_nonneg.2 (by positivity)

/-- The weight of one score `s`: the sigmoid of the scaled and shifted score, over the weights' scale `ps`, clipped to
    `[0, cap]`. -/
def weight (ss ps s : EReal) : EReal := min cap (max 0 (Ideal.logistic (s * ss + bias) * Ideal.div one ps))

/-- Row `r` sees column `c`: the column is at most the row and fewer than 128 columns behind it. -/
def inBand (r c : ℕ) : Prop := c ≤ r ∧ r < c + 128

instance (r c : ℕ) : Decidable (inBand r c) := inferInstanceAs (Decidable (_ ∧ _))

/-- One head's output at row `r`, channel `d`: the weights of the columns row `r` sees, times the values, summed over all 512
    columns, times the channel's scale. -/
def head (ss ps : EReal) (q k v : Fin 512 → Fin 96 → EReal) (os : Fin 96 → EReal) (r : Fin 512) (d : Fin 96) : EReal :=
  (∑ c : Fin 512, (if inBand r.val c.val then weight ss ps (∑ e : Fin 96, q r e * k c e) else 0) * v c d) * os d

/-- A sum over 512 columns whose terms vanish outside `a, …, a + n - 1` is the sum over those `n` columns. -/
theorem sum_columns (n a : ℕ) (h : a + n ≤ 512) (f : Fin 512 → EReal)
    (hz : ∀ c : Fin 512, (c.val < a ∨ a + n ≤ c.val) → f c = 0) :
    (∑ j : Fin n, f ⟨a + j.val, by omega⟩) = ∑ c : Fin 512, f c := by
  refine Fintype.sum_of_injective (fun j : Fin n => (⟨a + j.val, by omega⟩ : Fin 512)) ?_ _ _ ?_ fun _ => rfl
  · intro x y hxy
    have := congrArg Fin.val hxy
    simp only at this
    exact Fin.ext (by omega)
  · intro c hc
    refine hz c ?_
    by_contra hn
    push Not at hn
    exact hc ⟨⟨c.val - a, by omega⟩, Fin.ext (by simp only; omega)⟩

/-- The first block of 128 rows: its rows see columns `0, …, r` only, so 128 columns under the mask `j ≤ i` are enough. -/
theorem head_first (ss ps : EReal) (q k v : Fin 512 → Fin 96 → EReal) (os : Fin 96 → EReal) (i : Fin 128) (d : Fin 96) :
    (∑ j : Fin 128, (if j.val ≤ i.val then weight ss ps (∑ e : Fin 96, q ⟨i.val, by omega⟩ e * k ⟨j.val, by omega⟩ e) else 0)
        * v ⟨j.val, by omega⟩ d) * os d
      = head ss ps q k v os ⟨i.val, by omega⟩ d := by
  unfold head
  rw [← sum_columns 128 0 (by omega)]
  · congr 1
    refine Finset.sum_congr rfl fun j _ => ?_
    have h0 : (⟨0 + j.val, by omega⟩ : Fin 512) = ⟨j.val, by omega⟩ := Fin.ext (by simp)
    rw [h0]
    congr 1
    refine if_congr ?_ rfl rfl
    unfold inBand
    simp only
    omega
  · intro c hc
    rw [if_neg (by unfold inBand; simp only; omega), zero_mul]

/-- A later block of 128 rows: its rows see the block's own columns up to the diagonal and the previous block's columns
    past it, so the 256 columns of the two blocks are enough. A weight is computed once per pair `(i, j)` from the score
    against the own column `j` when `j ≤ i` and against the previous block's column `j` otherwise. -/
theorem head_later (ss ps : EReal) (q k v : Fin 512 → Fin 96 → EReal) (os : Fin 96 → EReal) (t : ℕ) (ht : t < 3)
    (i : Fin 128) (d : Fin 96) :
    (∑ j : Fin 256,
        (if h : j.val < 128 then
          (if j.val ≤ i.val then 0 else weight ss ps (∑ e : Fin 96, q ⟨128 * (t + 1) + i.val, by omega⟩ e * k ⟨128 * t + j.val, by omega⟩ e))
        else
          (if j.val - 128 ≤ i.val then weight ss ps (∑ e : Fin 96, q ⟨128 * (t + 1) + i.val, by omega⟩ e * k ⟨128 * (t + 1) + (j.val - 128), by omega⟩ e) else 0))
        * v ⟨128 * t + j.val, by omega⟩ d) * os d
      = head ss ps q k v os ⟨128 * (t + 1) + i.val, by omega⟩ d := by
  unfold head
  rw [← sum_columns 256 (128 * t) (by omega)]
  · congr 1
    refine Finset.sum_congr rfl fun j _ => ?_
    congr 1
    by_cases h : j.val < 128
    · rw [dif_pos h]
      by_cases hj : j.val ≤ i.val
      · rw [if_pos hj, if_neg (by unfold inBand; simp only; omega)]
      · rw [if_neg hj, if_pos (by unfold inBand; simp only; omega)]
    · rw [dif_neg h]
      have hc : (⟨128 * (t + 1) + (j.val - 128), by omega⟩ : Fin 512) = ⟨128 * t + j.val, by omega⟩ :=
        Fin.ext (by simp only; omega)
      rw [hc]
      refine if_congr ?_ rfl rfl
      unfold inBand
      simp only
      omega
  · intro c hc
    rw [if_neg (by unfold inBand; simp only; omega), zero_mul]

/-- Masking before the clip is masking after it: a zeroed sigmoid clips to zero whatever the scale is. -/
theorem clip_zero (x : EReal) : min cap (max 0 (0 * x)) = 0 := by
  rw [zero_mul, max_self, min_eq_right cap_nonneg]

/-! ## The whole result, as a function of the seven arguments -/

section Whole
open Idealize.ShloMosaic.ValueIdx

/-- The host's constant factor of the scores' scale (about `1 / sqrt 96`). -/
def rootScale : EReal := Ideal.ofBits .f32 0x3DD105EC#32

/-- The key head a query head shares with the four others of its group. -/
def keyHead (h : Fin 30) : Fin 6 := ⟨h.val / 5, by omega⟩

variable (q : (⟨4, ![3, 512, 30, 96]⟩ : Shape).Idx → EReal) (qs : (⟨1, ![30]⟩ : Shape).Idx → EReal)
  (k : (⟨4, ![3, 512, 6, 96]⟩ : Shape).Idx → EReal) (ks : (⟨1, ![6]⟩ : Shape).Idx → EReal)
  (v : (⟨4, ![3, 512, 6, 96]⟩ : Shape).Idx → EReal) (vs : (⟨2, ![6, 96]⟩ : Shape).Idx → EReal)
  (ps : (⟨0, ![]⟩ : Shape).Idx → EReal)

/-- Attention of batch element `b`, query head `h`, at row `r` and channel `d`. -/
def attention (b : Fin 3) (r : Fin 512) (h : Fin 30) (d : Fin 96) : EReal :=
  head (qs (ix1 h) * ks (ix1 (keyHead h)) * rootScale) (ps ix0) (fun i e => q (ix4 b i h e))
    (fun j e => k (ix4 b j (keyHead h) e)) (fun j e => v (ix4 b j (keyHead h) e)) (fun e => ps ix0 * vs (ix2 (keyHead h) e)) r d

/-- The result array: column `96 h + d` of row `r` of batch element `b` is head `h`'s attention at channel `d`. -/
def result (y : (⟨3, ![3, 512, 2880]⟩ : Shape).Idx) : EReal :=
  attention q qs k ks v vs ps (y 0) (y 1) ⟨(y 2).val / 96, by have : (y 2).val < 2880 := (y 2).isLt; omega⟩
    ⟨(y 2).val % 96, Nat.mod_lt _ (by decide)⟩

end Whole

end Cert.Attend

end
-- ==== Proof.Unit.lean ====
/-
  What the kernel body stores in one block of 128 rows of one query head, as two expressions over the vectors it loads: one for
  the first block of rows (`first`: 128 columns under a mask) and one for a later block (`later`: the two blocks of columns
  that meet the window, folded into one set of weights and unfolded into 256 columns). Each is read at an index of the stored
  block on the extended reals.
-/
module

public import proofs.«01_k».proof.Proof.Attend
public import proofs.«01_k».proof.Proof.Gen.KernelIdeal.Skeleton
public import Idealize.ShloMosaic.Lib.ValueIdx
public import Idealize.ShloMosaic.Lib.MatmulPlain
public import Idealize.ShloMosaic.Lib.Pipeline.Value

@[expose] public section

noncomputable section

open scoped BigOperators

namespace Cert.KernelIdeal.Unit

open Idealize.ShloMosaic Idealize.ShloMosaic.ValueIdx Cert.KernelIdeal Cert.KernelIdeal.Gen

section Expressions
variable {F : FTy → Type} [FloatOps F]

/-- The 128 × 128 scores of a block of query rows against a block of key rows. -/
def scores (q : Vec F S1x1x1x128x96 .fp8e4m3) (k : Vec F S1x1x128x96 .fp8e4m3) : FVec F S128x128 .f32 :=
  matmul dot_S128x96_S128x96_S128x128_1_1_0_0_n_n none
    (extf .bf16 (shapeCast S128x96 q shapeCasts_S1x1x1x128x96_S128x96 : FVec F S128x96 .fp8e4m3) bitsLt_fp8e4m3_bf16)
    (extf .bf16 (shapeCast S128x96 k shapeCasts_S1x1x128x96_S128x96 : FVec F S128x96 .fp8e4m3) bitsLt_fp8e4m3_bf16)
    (constant S128x128 .f32 0x00000000#32)

/-- The clipped weights of a block of scores: `inv` is the inverse of the weights' scale, `ss` the scores' scale. -/
def weights (inv ss : F .f32) (s : FVec F S128x128 .f32) : FVec F S128x128 .f32 :=
  minimumf (broadcast S128x128 (Scalar.ofBits .f32 0x43E00000#32))
    (maximumf (broadcast S128x128 (Scalar.ofBits .f32 0x00000000#32))
      (mulf (logistic (addf (mulf s (broadcast S128x128 ss)) (broadcast S128x128 (Scalar.ofBits .f32 0xC09B43D5#32))))
        (broadcast S128x128 inv)))

/-- A block of zeros. -/
def zeros : FVec F S128x128 .f32 := broadcast S128x128 (Scalar.ofBits .f32 0x00000000#32)

/-- The weighted sum of the values times the channels' scales, as the stored block. -/
def scaled (acc : FVec F S128x96 .f32) (os : Vec F S1x1x96 .f32) : FVec F S1x1x1x128x96 .bf16 :=
  shapeCast S1x1x1x128x96
    (truncf .bf16
      (mulf acc (broadcastTo S128x96 (shapeCast S1x96 (shapeCast S96 os shapeCasts_S1x1x96_S96 : FVec F S96 .f32) shapeCasts_S96_S1x96 : FVec F S1x96 .f32) broadcasts_S1x96_S128x96))
      bitsLt_bf16_f32 : FVec F S128x96 .bf16)
    shapeCasts_S128x96_S1x1x1x128x96

/-- What the body stores in the first block of rows. -/
def first (inv ss : F .f32) (q : Vec F S1x1x1x128x96 .fp8e4m3) (k v : Vec F S1x1x128x96 .fp8e4m3) (os : Vec F S1x1x96 .f32) :
    FVec F S1x1x1x128x96 .bf16 :=
  scaled
    (matmul dot_S128x128_S128x96_S128x96_1_0_0_1_n_n none
      (truncf .fp8e4m3 (select k0_pay3 (weights inv ss (scores q k)) zeros) bitsLt_fp8e4m3_f32)
      (shapeCast S128x96 v shapeCasts_S1x1x128x96_S128x96 : FVec F S128x96 .fp8e4m3)
      (constant S128x96 .f32 0x00000000#32))
    os

/-- A later block's weights, one per pair: from the own block's score on and below the diagonal, from the previous block's
    above it. -/
def folded (inv ss : F .f32) (q : Vec F S1x1x1x128x96 .fp8e4m3) (kc kp : Vec F S1x1x128x96 .fp8e4m3) : FVec F S128x128 .f32 :=
  weights inv ss (select k0_pay3 (scores q kc) (scores q kp))

/-- The folded weights laid out over the 256 columns of the previous and the own block. -/
def unfolded (w : FVec F S128x128 .f32) : FVec F S128x256 .f32 :=
  concatenate S128x256 1 [⟨S128x128, select k0_pay3 zeros w⟩, ⟨S128x128, select k0_pay3 w zeros⟩] concatenates_S128x128_S128x128_S128x256_d1

/-- What the body stores in a later block of rows. -/
def later (inv ss : F .f32) (q : Vec F S1x1x1x128x96 .fp8e4m3) (kc kp : Vec F S1x1x128x96 .fp8e4m3)
    (v : Vec F S1x1x256x96 .fp8e4m3) (os : Vec F S1x1x96 .f32) : FVec F S1x1x1x128x96 .bf16 :=
  scaled
    (matmul dot_S128x256_S256x96_S128x96_1_0_0_1_n_n none
      (truncf .fp8e4m3 (unfolded (folded inv ss q kc kp)) bitsLt_fp8e4m3_f32)
      (shapeCast S256x96 v shapeCasts_S1x1x256x96_S256x96 : FVec F S256x96 .fp8e4m3)
      (constant S128x96 .f32 0x00000000#32))
    os

end Expressions

/-! ## Read at an index -/

section Layout
variable {α : Type}

/-- The query block without its unit axes. -/
theorem cast_q (v : S1x1x1x128x96.Idx → α) (i : Fin 128) (d : Fin 96) :
    shapeCast S128x96 v shapeCasts_S1x1x1x128x96_S128x96 (ix2 i d) = v (ix5 0 0 0 i d) :=
  shapeCast_apply _ _ _ _ (by rw [Shape.rowMajor_val_five, Shape.rowMajor_val_two]; simp)

/-- A block of 128 key or value rows without its unit axes. -/
theorem cast_kv (v : S1x1x128x96.Idx → α) (i : Fin 128) (d : Fin 96) :
    shapeCast S128x96 v shapeCasts_S1x1x128x96_S128x96 (ix2 i d) = v (ix4 0 0 i d) :=
  shapeCast_apply _ _ _ _ (by rw [Shape.rowMajor_val_four, Shape.rowMajor_val_two]; simp)

/-- A block of 256 value rows without its unit axes. -/
theorem cast_v256 (v : S1x1x256x96.Idx → α) (i : Fin 256) (d : Fin 96) :
    shapeCast S256x96 v shapeCasts_S1x1x256x96_S256x96 (ix2 i d) = v (ix4 0 0 i d) :=
  shapeCast_apply _ _ _ _ (by rw [Shape.rowMajor_val_four, Shape.rowMajor_val_two]; simp)

/-- The stored block at row `i`, channel `d` is the matrix there. -/
theorem cast_out (v : S128x96.Idx → α) (i : Fin 128) (d : Fin 96) :
    shapeCast S1x1x1x128x96 v shapeCasts_S128x96_S1x1x1x128x96 (ix5 0 0 0 i d) = v (ix2 i d) :=
  shapeCast_apply _ _ _ _ (by rw [Shape.rowMajor_val_five, Shape.rowMajor_val_two]; simp)

/-- The channels' scales repeated over the rows. -/
theorem cast_os (v : S1x1x96.Idx → α) (i : Fin 128) (d : Fin 96) :
    broadcastTo S128x96 (shapeCast S1x96 (shapeCast S96 v shapeCasts_S1x1x96_S96) shapeCasts_S96_S1x96) broadcasts_S1x96_S128x96 (ix2 i d)
      = v (ix3 0 0 d) := by
  rw [broadcastTo_apply _ _ _ (ix2 0 d) (fun a => by match a with | ⟨0, _⟩ => rfl | ⟨1, _⟩ => rfl)]
  rw [shapeCast_apply _ _ _ (ix1 d) (by rw [Shape.rowMajor_val_one, Shape.rowMajor_val_two]; simp)]
  exact shapeCast_apply _ _ _ _ (by rw [Shape.rowMajor_val_three, Shape.rowMajor_val_one]; simp)

end Layout

/-- The body's mask picks by whether the column is at most the row. -/
theorem select_mask {α : Type} (a b : S128x128.Idx → α) (i j : Fin 128) :
    select k0_pay3 a b (ix2 i j) = if j.val ≤ i.val then a (ix2 i j) else b (ix2 i j) := by
  have h : k0_pay3 (ix2 i j) = if j.val ≤ i.val then 1#1 else 0#1 := by
    unfold k0_pay3
    show IntOp.cmpi .sle (iota .tc S128x128 32 [1] iota_S128x128_d1_w32 (ix2 i j)) (iota .tc S128x128 32 [0] iota_S128x128_d0_w32 (ix2 i j)) = _
    rw [iota_single_apply, iota_single_apply]
    revert i j
    decide +kernel
  rw [select_apply, h]
  split_ifs
  · exact select_one _ _
  · exact select_zero _ _

/-- A score is the sum over the 96 channels of query times key. -/
theorem scores_apply (q : Vec Ideal S1x1x1x128x96 .fp8e4m3) (k : Vec Ideal S1x1x128x96 .fp8e4m3) (i j : Fin 128) :
    scores (F := Ideal) q k (ix2 i j) = ∑ e : Fin 96, q (ix5 0 0 0 i e) * k (ix4 0 0 j e) := by
  unfold scores
  refine (Ideal.matmul_transposedRhs_apply (M := 128) (K := 96) (N := 128) none _ _ _ i j).trans ?_
  rw [constant_apply, Attend.zero_word, zero_add]
  refine Finset.sum_congr rfl fun e _ => ?_
  rw [extf_apply, extf_apply, cast_q, cast_kv]

/-- A clipped weight is the weight of the score there. -/
theorem weights_apply (ps ss : EReal) (s : FVec Ideal S128x128 .f32) (i : S128x128.Idx) :
    weights (F := Ideal) (k0_pay2 (F := Ideal) ps) ss s i = Attend.weight ss ps (s i) := by
  have hz : (Scalar.ofBits (F := Ideal) .f32 0x00000000#32 : EReal) = 0 := Attend.zero_word
  unfold weights
  rw [minimumf_apply, maximumf_apply, broadcast_apply, broadcast_apply, hz]
  rfl

/-- A block of zeros is zero everywhere. -/
theorem zeros_apply (i : S128x128.Idx) : zeros (F := Ideal) i = (0 : EReal) := Attend.zero_word

/-- The stored block: the weighted sum times the channel's scale. -/
theorem scaled_apply (acc : FVec Ideal S128x96 .f32) (os : Vec Ideal S1x1x96 .f32) (i : Fin 128) (d : Fin 96) :
    scaled (F := Ideal) acc os (ix5 0 0 0 i d) = acc (ix2 i d) * os (ix3 0 0 d) := by
  unfold scaled
  rw [cast_out, truncf_apply, mulf_apply, cast_os]

/-- The first block of rows, read at row `i` and channel `d`. -/
theorem first_apply (ps ss : EReal) (q : Vec Ideal S1x1x1x128x96 .fp8e4m3) (k v : Vec Ideal S1x1x128x96 .fp8e4m3)
    (os : Vec Ideal S1x1x96 .f32) (i : Fin 128) (d : Fin 96) :
    first (F := Ideal) (k0_pay2 (F := Ideal) ps) ss q k v os (ix5 0 0 0 i d)
      = (∑ j : Fin 128, (if j.val ≤ i.val then Attend.weight ss ps (∑ e : Fin 96, q (ix5 0 0 0 i e) * k (ix4 0 0 j e)) else 0)
          * v (ix4 0 0 j d)) * os (ix3 0 0 d) := by
  unfold first
  rw [scaled_apply]
  congr 1
  refine (Ideal.matmul_plain_apply (M := 128) (K := 128) (N := 96) none _ _ _ i d).trans ?_
  rw [constant_apply, Attend.zero_word, zero_add]
  refine Finset.sum_congr rfl fun j _ => ?_
  rw [truncf_apply, cast_kv, select_mask, weights_apply, scores_apply, zeros_apply]

/-- A folded weight is the weight of the score the mask picks. -/
theorem folded_apply (ps ss : EReal) (q : Vec Ideal S1x1x1x128x96 .fp8e4m3) (kc kp : Vec Ideal S1x1x128x96 .fp8e4m3) (i j : Fin 128) :
    folded (F := Ideal) (k0_pay2 (F := Ideal) ps) ss q kc kp (ix2 i j)
      = if j.val ≤ i.val then Attend.weight ss ps (∑ e : Fin 96, q (ix5 0 0 0 i e) * kc (ix4 0 0 j e))
        else Attend.weight ss ps (∑ e : Fin 96, q (ix5 0 0 0 i e) * kp (ix4 0 0 j e)) := by
  unfold folded
  rw [weights_apply, select_mask, scores_apply, scores_apply]
  split_ifs <;> rfl

/-- The unfolded weights: the previous block's columns keep what lies above the diagonal, the own block's the rest. -/
theorem unfolded_apply (w : FVec Ideal S128x128 .f32) (i : Fin 128) (j : Fin 256) :
    unfolded (F := Ideal) w (ix2 i j)
      = if h : j.val < 128 then (if j.val ≤ i.val then (0 : EReal) else w (ix2 i ⟨j.val, h⟩))
        else (if j.val - 128 ≤ i.val then w (ix2 i ⟨j.val - 128, by omega⟩) else 0) := by
  unfold unfolded
  by_cases h : j.val < 128
  · rw [dif_pos h]
    refine (concatenate_pair_apply_left (t := S128x256) (s₁ := S128x128) (s₂ := S128x128) 1 _ _ _ _ rfl (ix2 i ⟨j.val, h⟩)
      (fun b => by match b with | ⟨0, _⟩ => rfl | ⟨1, _⟩ => rfl)).trans ?_
    rw [select_mask, zeros_apply]
  · rw [dif_neg h]
    refine (concatenate_pair_apply_right (t := S128x256) (s₁ := S128x128) (s₂ := S128x128) 1 _ _ _ _ rfl rfl
      (ix2 i ⟨j.val - 128, by omega⟩) (fun b hb => by match b with | ⟨0, _⟩ => rfl | ⟨1, _⟩ => exact absurd rfl hb)
      (by show j.val - 128 + 128 = j.val; omega)).trans ?_
    rw [select_mask, zeros_apply]

/-- A later block of rows, read at row `i` and channel `d`. -/
theorem later_apply (ps ss : EReal) (q : Vec Ideal S1x1x1x128x96 .fp8e4m3) (kc kp : Vec Ideal S1x1x128x96 .fp8e4m3)
    (v : Vec Ideal S1x1x256x96 .fp8e4m3) (os : Vec Ideal S1x1x96 .f32) (i : Fin 128) (d : Fin 96) :
    later (F := Ideal) (k0_pay2 (F := Ideal) ps) ss q kc kp v os (ix5 0 0 0 i d)
      = (∑ j : Fin 256,
          (if h : j.val < 128 then
            (if j.val ≤ i.val then 0 else Attend.weight ss ps (∑ e : Fin 96, q (ix5 0 0 0 i e) * kp (ix4 0 0 ⟨j.val, h⟩ e)))
          else
            (if j.val - 128 ≤ i.val then Attend.weight ss ps (∑ e : Fin 96, q (ix5 0 0 0 i e) * kc (ix4 0 0 ⟨j.val - 128, by omega⟩ e)) else 0))
          * v (ix4 0 0 j d)) * os (ix3 0 0 d) := by
  unfold later
  rw [scaled_apply]
  congr 1
  refine (Ideal.matmul_plain_apply (M := 128) (K := 256) (N := 96) none _ _ _ i d).trans ?_
  rw [constant_apply, Attend.zero_word, zero_add]
  refine Finset.sum_congr rfl fun j _ => ?_
  rw [truncf_apply, cast_v256, unfolded_apply]
  congr 1
  by_cases h : j.val < 128
  · rw [dif_pos h, dif_pos h, folded_apply]
    by_cases hj : j.val ≤ i.val
    · rw [if_pos hj, if_pos hj]
    · rw [if_neg hj, if_neg hj, if_neg hj]
  · rw [dif_neg h, dif_neg h, folded_apply]
    by_cases hj : j.val - 128 ≤ i.val
    · rw [if_pos hj, if_pos hj, if_pos hj]
    · rw [if_neg hj, if_neg hj]

end Cert.KernelIdeal.Unit

end
-- ==== Proof.Block.lean ====
/-
  What the kernel body leaves in the output block of one grid point: at every query head of the group, row and channel, the
  attention of that head (`Attend.head`) over the point's blocks of queries, keys, values and scales. The body's twenty stores
  (four blocks of rows, five query heads) are each one of the two expressions of Unit.lean, and together they cover the block.
-/
module

public import proofs.«01_k».proof.Proof.Unit
public import proofs.«01_k».proof.Proof.Gen.KernelIdeal.Frame

@[expose] public section

noncomputable section

open scoped BigOperators

namespace Cert.KernelIdeal.Block

open Idealize.ShloMosaic Idealize.ShloMosaic.ValueIdx Idealize.SL.Sem Cert.KernelIdeal Cert.KernelIdeal.Gen Cert.KernelIdeal.Unit

/-! ## The body's loads, read at an index -/

section Loads
variable {Val : EltTy → Type} {e : EltTy}

/-- 128 query rows of head `g` from row `a`. -/
theorem ld_q (X : S1x1x5x512x96.Idx → Val e) (g a : ℕ) (hg : g < 5) (ha : a + 128 ≤ 512)
    (inb : ∀ b, (![0, 0, g, a, 0] : Fin 5 → ℕ) b + (![1, 1, 1, 128, 96] : Fin 5 → ℕ) b ≤ S1x1x5x512x96.size b) (i : Fin 128) (d : Fin 96) :
    View.ld X (Rect.unit (s := S1x1x5x512x96) ![0, 0, g, a, 0] ![1, 1, 1, 128, 96] inb) (ix5 (0 : Fin 1) (0 : Fin 1) (0 : Fin 1) i d)
      = X (ix5 0 0 ⟨g, hg⟩ ⟨a + i.val, by omega⟩ d) := by
  rw [View.ld_unit]
  exact extractStridedSlice_apply _ _ _ _ _ fun b => by
    match b with
    | ⟨0, _⟩ => rfl
    | ⟨1, _⟩ => rfl
    | ⟨2, _⟩ => rfl
    | ⟨3, _⟩ => rfl
    | ⟨4, _⟩ => exact (Nat.zero_add _).symm

/-- `n` key or value rows from row `a`. -/
theorem ld_kv (n : ℕ) (X : S1x1x512x96.Idx → Val e) (a : ℕ) (ha : a + n ≤ 512)
    (inb : ∀ b, (![0, 0, a, 0] : Fin 4 → ℕ) b + (![1, 1, n, 96] : Fin 4 → ℕ) b ≤ S1x1x512x96.size b) (i : Fin n) (d : Fin 96) :
    View.ld X (Rect.unit (s := S1x1x512x96) ![0, 0, a, 0] ![1, 1, n, 96] inb) (ix4 (0 : Fin 1) (0 : Fin 1) i d)
      = X (ix4 0 0 ⟨a + i.val, by omega⟩ d) := by
  rw [View.ld_unit]
  exact extractStridedSlice_apply _ _ _ _ _ fun b => by
    match b with
    | ⟨0, _⟩ => rfl
    | ⟨1, _⟩ => rfl
    | ⟨2, _⟩ => rfl
    | ⟨3, _⟩ => exact (Nat.zero_add _).symm

/-- The channels' scales, loaded whole. -/
theorem ld_os (X : S1x1x96.Idx → Val e) (inb : ∀ b, (![0, 0, 0] : Fin 3 → ℕ) b + (![1, 1, 96] : Fin 3 → ℕ) b ≤ S1x1x96.size b) (d : Fin 96) :
    View.ld X (Rect.unit (s := S1x1x96) ![0, 0, 0] ![1, 1, 96] inb) (ix3 (0 : Fin 1) (0 : Fin 1) d) = X (ix3 0 0 d) := by
  rw [View.ld_unit]
  exact extractStridedSlice_apply _ _ _ _ _ fun b => by
    match b with
    | ⟨0, _⟩ => rfl
    | ⟨1, _⟩ => rfl
    | ⟨2, _⟩ => exact (Nat.zero_add _).symm

/-- The weights' scale, the one entry of its array. -/
theorem ld_ps (X : S1.Idx → Val e) (inb : ∀ b, (![0] : Fin 1 → ℕ) b + (![1] : Fin 1 → ℕ) b ≤ S1.size b) (h : 0 < Shape.numel ⟨1, ![1]⟩) :
    View.ld X (Rect.unit (s := S1) ![0] ![1] inb) (Shape.Idx.first h) = X (ix1 0) := by
  rw [View.ld_unit]
  exact extractStridedSlice_apply _ _ _ _ _ fun b => by
    match b with
    | ⟨0, _⟩ => rfl

/-- A key head's number, through the 32-bit word the grid coordinate is read as. -/
theorem head_toNat (n : Fin 6) : BitVec.toNat (Scalar.indexCast (BitVec.ofNat 32 n.val)) = n.val := by
  revert n; decide

/-- The scores' scale of key head `n` and query head `g` of its group, `n` read off the grid point's second coordinate. -/
theorem ld_ss (X : S6x5.Idx → Val e) (n : Fin 6) (g : ℕ) (hg : g < 5)
    (inb : ∀ b, (![BitVec.toNat (Scalar.indexCast (BitVec.ofNat 32 n.val)), g] : Fin 2 → ℕ) b + (![1, 1] : Fin 2 → ℕ) b ≤ S6x5.size b)
    (h : 0 < Shape.numel ⟨2, ![1, 1]⟩) :
    View.ld X (Rect.unit (s := S6x5) ![BitVec.toNat (Scalar.indexCast (BitVec.ofNat 32 n.val)), g] ![1, 1] inb) (Shape.Idx.first h)
      = X (ix2 n ⟨g, hg⟩) := by
  have hn := head_toNat n
  rw [View.ld_unit]
  exact extractStridedSlice_apply _ _ _ _ _ fun b => by
    match b with
    | ⟨0, _⟩ => exact hn.symm
    | ⟨1, _⟩ => rfl

end Loads

/-! ## One grid point's output block -/

section Point
variable (n : Fin 6) (x0 : Vec Ideal S6x5 .f32) (x1 : Vec Ideal S1 .f32) (x2 : Vec Ideal S1x1x5x512x96 .fp8e4m3)
  (x3 x4 : Vec Ideal S1x1x512x96 .fp8e4m3) (x5 : Vec Ideal S1x1x96 .f32)

/-- The output block of a grid point with key head `n`, as a function of its index: the attention of the query head the index
    names, at its row and channel. -/
def block (y : S1x1x5x512x96.Idx) : Elt Ideal .bf16 :=
  Attend.head (x0 (ix2 n (y 2))) (x1 (ix1 0)) (fun r e => x2 (ix5 0 0 (y 2) r e)) (fun r e => x3 (ix4 0 0 r e))
    (fun r e => x4 (ix4 0 0 r e)) (fun d => x5 (ix3 0 0 d)) (y 3) (y 4)

/-- Where a stored block of 128 rows of head `g` from row `a` lies in the output block. -/
theorem emb_piece (g a : ℕ) (hg : g < 5) (ha : a + 128 ≤ 512)
    (inb : ∀ b, (![0, 0, g, a, 0] : Fin 5 → ℕ) b + (![1, 1, 1, 128, 96] : Fin 5 → ℕ) b ≤ S1x1x5x512x96.size b) (i : Fin 128) (d : Fin 96) :
    (Rect.unit (s := S1x1x5x512x96) ![0, 0, g, a, 0] ![1, 1, 1, 128, 96] inb).emb (ix5 (0 : Fin 1) (0 : Fin 1) (0 : Fin 1) i d)
      = ix5 0 0 ⟨g, hg⟩ ⟨a + i.val, by omega⟩ d := by
  funext b
  apply Fin.ext
  match b with
  | ⟨0, _⟩ => rfl
  | ⟨1, _⟩ => rfl
  | ⟨2, _⟩ => rfl
  | ⟨3, _⟩ => show a + 1 * i.val = a + i.val; omega
  | ⟨4, _⟩ => show 0 + 1 * d.val = d.val; omega

/-- A stored block's index is its row and channel. -/
theorem idx_piece (x : S1x1x1x128x96.Idx) : ∃ (i : Fin 128) (d : Fin 96), x = ix5 (0 : Fin 1) (0 : Fin 1) (0 : Fin 1) i d := by
  refine ⟨x 3, x 4, ?_⟩
  funext b
  match b with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

/-- The first block of rows of head `g`: what the body stores there is the attention of that head. -/
theorem piece_first (g : ℕ) (hg : g < 5) (inbq inb1 inb3 inb5 ins ) (h1 : 0 < Shape.numel ⟨1, ![1]⟩) (h2 : 0 < Shape.numel ⟨2, ![1, 1]⟩)
    (x : S1x1x1x128x96.Idx) :
    first (F := Ideal) (k0_pay2 (F := Ideal) (View.ld x1 (Rect.unit (s := S1) ![0] ![1] inb1) (Shape.Idx.first h1)))
        (View.ld x0 (Rect.unit (s := S6x5) ![BitVec.toNat (Scalar.indexCast (BitVec.ofNat 32 n.val)), g] ![1, 1] ins) (Shape.Idx.first h2))
        (View.ld x2 (Rect.unit (s := S1x1x5x512x96) ![0, 0, g, 0, 0] ![1, 1, 1, 128, 96] inbq))
        (View.ld x3 (Rect.unit (s := S1x1x512x96) ![0, 0, 0, 0] ![1, 1, 128, 96] inb3))
        (View.ld x4 (Rect.unit (s := S1x1x512x96) ![0, 0, 0, 0] ![1, 1, 128, 96] inb3))
        (View.ld x5 (Rect.unit (s := S1x1x96) ![0, 0, 0] ![1, 1, 96] inb5)) x
      = block n x0 x1 x2 x3 x4 x5 ((Rect.unit (s := S1x1x5x512x96) ![0, 0, g, 0, 0] ![1, 1, 1, 128, 96] inbq).emb x) := by
  obtain ⟨i, d, rfl⟩ := idx_piece x
  rw [emb_piece g 0 hg (by omega), ld_ps, ld_ss x0 n g hg, first_apply]
  unfold block
  have hi : (⟨0 + i.val, by omega⟩ : Fin 512) = ⟨i.val, by omega⟩ := Fin.ext (Nat.zero_add _)
  show _ = Attend.head (x0 (ix2 n ⟨g, hg⟩)) _ (fun r e => x2 (ix5 0 0 ⟨g, hg⟩ r e)) _ _ _ ⟨0 + i.val, by omega⟩ d
  rw [hi, ← Attend.head_first, ld_os]
  congr 1
  refine Finset.sum_congr rfl fun j _ => ?_
  have hj : (⟨0 + j.val, by omega⟩ : Fin 512) = ⟨j.val, by omega⟩ := Fin.ext (Nat.zero_add _)
  rw [ld_kv 128 x4 0 (by omega), hj]
  simp only [ld_q x2 g 0 hg (by omega), ld_kv 128 x3 0 (by omega), hi, hj]

/-- A later block of rows of head `g`, from row `128 (t + 1)`: what the body stores there is the attention of that head. -/
theorem piece_later (g : ℕ) (hg : g < 5) (t a b : ℕ) (ht : t < 3) (hb : b = 128 * t) (ha : a = 128 * (t + 1)) (inbq inb1 inbc inbp inbv inb5 ins )
    (h1 : 0 < Shape.numel ⟨1, ![1]⟩) (h2 : 0 < Shape.numel ⟨2, ![1, 1]⟩) (x : S1x1x1x128x96.Idx) :
    later (F := Ideal) (k0_pay2 (F := Ideal) (View.ld x1 (Rect.unit (s := S1) ![0] ![1] inb1) (Shape.Idx.first h1)))
        (View.ld x0 (Rect.unit (s := S6x5) ![BitVec.toNat (Scalar.indexCast (BitVec.ofNat 32 n.val)), g] ![1, 1] ins) (Shape.Idx.first h2))
        (View.ld x2 (Rect.unit (s := S1x1x5x512x96) ![0, 0, g, a, 0] ![1, 1, 1, 128, 96] inbq))
        (View.ld x3 (Rect.unit (s := S1x1x512x96) ![0, 0, a, 0] ![1, 1, 128, 96] inbc))
        (View.ld x3 (Rect.unit (s := S1x1x512x96) ![0, 0, b, 0] ![1, 1, 128, 96] inbp))
        (View.ld x4 (Rect.unit (s := S1x1x512x96) ![0, 0, b, 0] ![1, 1, 256, 96] inbv))
        (View.ld x5 (Rect.unit (s := S1x1x96) ![0, 0, 0] ![1, 1, 96] inb5)) x
      = block n x0 x1 x2 x3 x4 x5 ((Rect.unit (s := S1x1x5x512x96) ![0, 0, g, a, 0] ![1, 1, 1, 128, 96] inbq).emb x) := by
  subst ha hb
  obtain ⟨i, d, rfl⟩ := idx_piece x
  rw [emb_piece g _ hg (by omega), ld_ps, ld_ss x0 n g hg, later_apply]
  unfold block
  show _ = Attend.head (x0 (ix2 n ⟨g, hg⟩)) _ (fun r e => x2 (ix5 0 0 ⟨g, hg⟩ r e)) _ _ _ ⟨128 * (t + 1) + i.val, by omega⟩ d
  rw [← Attend.head_later _ _ _ _ _ _ t ht, ld_os]
  congr 1
  refine Finset.sum_congr rfl fun j _ => ?_
  rw [ld_kv 256 x4 _ (by omega)]
  simp only [ld_q x2 g _ hg (by omega : 128 * (t + 1) + 128 ≤ 512), ld_kv 128 x3 _ (by omega : 128 * (t + 1) + 128 ≤ 512),
    ld_kv 128 x3 _ (by omega : 128 * t + 128 ≤ 512)]

end Point

variable (m : (ℓ : Loc nD τ sig) → Buf (Elt Ideal) ℓ)

set_option maxRecDepth 65536 in
set_option maxHeartbeats 4000000 in
/-- The output block after the body at grid point `t` is `block` of the point's input blocks. -/
theorem outsAt_eq (c : Dev nD) (t : Fin cfg0.N) :
    outsAt0 m c t = block (grid0.coords t 1) (iblk m c 0 t) (iblk m c 1 t) (iblk m c 2 t) (iblk m c 3 t) (iblk m c 4 t) (iblk m c 5 t) := by
  have hc := cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t)
  unfold outsAt0 out0_A_6
  rw [View.read_writes_eq_canon _ _ _ hc]
  funext y
  refine View.canon_apply_of_pieces _ _ ?_ y (hc y)
  clear hc
  unfold kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread]
  simp only [List.forall_mem_cons, List.forall_mem_nil, and_true]
  and_intros
  · exact fun x => piece_later (grid0.coords t 1) _ _ _ _ _ _ 4 (by decide) 2 384 256 (by decide) rfl rfl _ _ _ _ _ _ _ _ _ x
  · exact fun x => piece_later (grid0.coords t 1) _ _ _ _ _ _ 3 (by decide) 2 384 256 (by decide) rfl rfl _ _ _ _ _ _ _ _ _ x
  · exact fun x => piece_later (grid0.coords t 1) _ _ _ _ _ _ 2 (by decide) 2 384 256 (by decide) rfl rfl _ _ _ _ _ _ _ _ _ x
  · exact fun x => piece_later (grid0.coords t 1) _ _ _ _ _ _ 1 (by decide) 2 384 256 (by decide) rfl rfl _ _ _ _ _ _ _ _ _ x
  · exact fun x => piece_later (grid0.coords t 1) _ _ _ _ _ _ 0 (by decide) 2 384 256 (by decide) rfl rfl _ _ _ _ _ _ _ _ _ x
  · exact fun x => piece_later (grid0.coords t 1) _ _ _ _ _ _ 4 (by decide) 1 256 128 (by decide) rfl rfl _ _ _ _ _ _ _ _ _ x
  · exact fun x => piece_later (grid0.coords t 1) _ _ _ _ _ _ 3 (by decide) 1 256 128 (by decide) rfl rfl _ _ _ _ _ _ _ _ _ x
  · exact fun x => piece_later (grid0.coords t 1) _ _ _ _ _ _ 2 (by decide) 1 256 128 (by decide) rfl rfl _ _ _ _ _ _ _ _ _ x
  · exact fun x => piece_later (grid0.coords t 1) _ _ _ _ _ _ 1 (by decide) 1 256 128 (by decide) rfl rfl _ _ _ _ _ _ _ _ _ x
  · exact fun x => piece_later (grid0.coords t 1) _ _ _ _ _ _ 0 (by decide) 1 256 128 (by decide) rfl rfl _ _ _ _ _ _ _ _ _ x
  · exact fun x => piece_later (grid0.coords t 1) _ _ _ _ _ _ 4 (by decide) 0 128 0 (by decide) rfl rfl _ _ _ _ _ _ _ _ _ x
  · exact fun x => piece_later (grid0.coords t 1) _ _ _ _ _ _ 3 (by decide) 0 128 0 (by decide) rfl rfl _ _ _ _ _ _ _ _ _ x
  · exact fun x => piece_later (grid0.coords t 1) _ _ _ _ _ _ 2 (by decide) 0 128 0 (by decide) rfl rfl _ _ _ _ _ _ _ _ _ x
  · exact fun x => piece_later (grid0.coords t 1) _ _ _ _ _ _ 1 (by decide) 0 128 0 (by decide) rfl rfl _ _ _ _ _ _ _ _ _ x
  · exact fun x => piece_later (grid0.coords t 1) _ _ _ _ _ _ 0 (by decide) 0 128 0 (by decide) rfl rfl _ _ _ _ _ _ _ _ _ x
  · exact fun x => piece_first (grid0.coords t 1) _ _ _ _ _ _ 4 (by decide) _ _ _ _ _ _ _ x
  · exact fun x => piece_first (grid0.coords t 1) _ _ _ _ _ _ 3 (by decide) _ _ _ _ _ _ _ x
  · exact fun x => piece_first (grid0.coords t 1) _ _ _ _ _ _ 2 (by decide) _ _ _ _ _ _ _ x
  · exact fun x => piece_first (grid0.coords t 1) _ _ _ _ _ _ 1 (by decide) _ _ _ _ _ _ _ x
  · exact fun x => piece_first (grid0.coords t 1) _ _ _ _ _ _ 0 (by decide) _ _ _ _ _ _ _ x
  · exact fun _ h => absurd h List.not_mem_nil

end Cert.KernelIdeal.Block

end
-- ==== Proof.Entry.lean ====
/-
  What the pipelined region of the kernel's program finds in its six input arrays, entry by entry, in terms of the program's
  arguments: the host lines before the region only scale, broadcast, transpose and reshape.
-/
module

public import proofs.«01_k».proof.Proof.Attend
public import proofs.«01_k».proof.Proof.Gen.KernelIdeal.Frame
public import Idealize.ShloMosaic.Lib.ValueIdx
public import Idealize.ShloMosaic.Lib.Pipeline.Value
public import Idealize.ShloMosaic.Lib.Claim

@[expose] public section

noncomputable section

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The arguments as launched. -/
abbrev q : S3x512x30x96.Idx → EReal := m ((c : Thread nD τ).loc main_arg0)
abbrev qs : S30.Idx → EReal := m ((c : Thread nD τ).loc main_arg1)
abbrev k : S3x512x6x96.Idx → EReal := m ((c : Thread nD τ).loc main_arg2)
abbrev ks : S6.Idx → EReal := m ((c : Thread nD τ).loc main_arg3)
abbrev v : S3x512x6x96.Idx → EReal := m ((c : Thread nD τ).loc main_arg4)
abbrev vs : S6x96.Idx → EReal := m ((c : Thread nD τ).loc main_arg5)
abbrev ps : S_.Idx → EReal := m ((c : Thread nD τ).loc main_arg6)

/-- The query head `g` of key head `n`'s group. -/
def queryHead (n : Fin 6) (g : Fin 5) : Fin 30 := ⟨n.val * 5 + g.val, by omega⟩

theorem keyHead_queryHead (n : Fin 6) (g : Fin 5) : Attend.keyHead (queryHead n g) = n :=
  Fin.ext (show (n.val * 5 + g.val) / 5 = n.val by omega)

/-- The scores' scales: the two scale arguments and the constant, multiplied. -/
theorem scale_apply (n : Fin 6) (g : Fin 5) :
    (V m c main_v5 : S6x5.Idx → EReal) (ix2 n g) = qs m c (ix1 (queryHead n g)) * ks m c (ix1 n) * Attend.rootScale := by
  have e : (V m c main_v5 : S6x5.Idx → EReal)
      = mulf (F := Ideal) (φ := .f32) (mulf (shapeCast S6x5 (qs m c) shapeCasts_S30_S6x5)
          (broadcastInDim S6x5 ![0, 1] bcast_S6x1_S6x5_0_1 (broadcastInDim S6x1 ![0] bcast_S6_S6x1_0 (ks m c))))
        (broadcastInDim S6x5 ![] bcast_S_S6x5 (constant S_ .f32 0x3DD105EC#32)) := by
    show StableHlo.after hostOps0 (fun b => m (c, b)) (Proc.tc.devRef main_v5) = _
    after_results
    rfl
  rw [e]
  refine congrArg₂ (· * ·) (congrArg₂ (· * ·) ?_ ?_) rfl
  · exact shapeCast_apply _ _ _ _ (by rw [Shape.rowMajor_val_one, Shape.rowMajor_val_two]; rfl)
  · refine (broadcastInDim_apply ![0, 1] _ _ (ix2 n g) (ix2 n (0 : Fin 1)) fun a => by
      match a with
      | ⟨0, _⟩ => rfl
      | ⟨1, _⟩ => rfl).trans (broadcastInDim_apply ![0] _ _ _ (ix1 n) fun a => by
      match a with
      | ⟨0, _⟩ => rfl)

/-- The weights' scale. -/
theorem ps_apply : (V m c main_v13 : S1.Idx → EReal) (ix1 0) = ps m c ix0 := by
  have e : (V m c main_v13 : S1.Idx → EReal) = shapeCast S1 (ps m c) shapeCasts_S_S1 := by
    show StableHlo.after hostOps0 (fun b => m (c, b)) (Proc.tc.devRef main_v13) = _
    after_results
    rfl
  rw [e]
  exact shapeCast_apply _ _ _ _ rfl

/-- The queries, a block of 512 rows per head. -/
theorem q_apply (b : Fin 3) (n : Fin 6) (g : Fin 5) (r : Fin 512) (e : Fin 96) :
    (V m c main_v10 : S3x6x5x512x96.Idx → EReal) (ix5 b n g r e) = q m c (ix4 b r (queryHead n g) e) := by
  have h : (V m c main_v10 : S3x6x5x512x96.Idx → EReal)
      = transpose S3x6x5x512x96 [0, 2, 3, 1, 4] (shapeCast S3x512x6x5x96 (q m c) shapeCasts_S3x512x30x96_S3x512x6x5x96)
          transposes_S3x512x6x5x96_S3x6x5x512x96_0_2_3_1_4 := by
    show StableHlo.after hostOps0 (fun b => m (c, b)) (Proc.tc.devRef main_v10) = _
    after_results
    rfl
  rw [h]
  refine (transpose_apply _ _ _ _ (ix5 b r n g e) fun a => ?_).trans (shapeCast_apply _ _ _ _ ?_)
  · match a with
    | ⟨0, _⟩ => rfl
    | ⟨1, _⟩ => rfl
    | ⟨2, _⟩ => rfl
    | ⟨3, _⟩ => rfl
    | ⟨4, _⟩ => rfl
  · rw [Shape.rowMajor_val_four, Shape.rowMajor_val_five]
    show ((b.val * 512 + r.val) * 30 + (n.val * 5 + g.val)) * 96 + e.val
      = (((b.val * 512 + r.val) * 6 + n.val) * 5 + g.val) * 96 + e.val
    ring

/-- A transpose that brings the heads before the rows, at an index. -/
theorem heads_first (x : S3x512x6x96.Idx → EReal) (b : Fin 3) (n : Fin 6) (r : Fin 512) (e : Fin 96) :
    transpose S3x6x512x96 [0, 2, 1, 3] x transposes_S3x512x6x96_S3x6x512x96_0_2_1_3 (ix4 b n r e) = x (ix4 b r n e) :=
  transpose_apply _ _ _ _ _ fun a => by
    match a with
    | ⟨0, _⟩ => rfl
    | ⟨1, _⟩ => rfl
    | ⟨2, _⟩ => rfl
    | ⟨3, _⟩ => rfl

/-- The keys. -/
theorem k_apply (b : Fin 3) (n : Fin 6) (r : Fin 512) (e : Fin 96) :
    (V m c main_v11 : S3x6x512x96.Idx → EReal) (ix4 b n r e) = k m c (ix4 b r n e) := by
  have h : (V m c main_v11 : S3x6x512x96.Idx → EReal)
      = transpose S3x6x512x96 [0, 2, 1, 3] (k m c) transposes_S3x512x6x96_S3x6x512x96_0_2_1_3 := by
    show StableHlo.after hostOps0 (fun b => m (c, b)) (Proc.tc.devRef main_v11) = _
    after_results
  rw [h, heads_first]

/-- The values. -/
theorem v_apply (b : Fin 3) (n : Fin 6) (r : Fin 512) (e : Fin 96) :
    (V m c main_v12 : S3x6x512x96.Idx → EReal) (ix4 b n r e) = v m c (ix4 b r n e) := by
  have h : (V m c main_v12 : S3x6x512x96.Idx → EReal)
      = transpose S3x6x512x96 [0, 2, 1, 3] (v m c) transposes_S3x512x6x96_S3x6x512x96_0_2_1_3 := by
    show StableHlo.after hostOps0 (fun b => m (c, b)) (Proc.tc.devRef main_v12) = _
    after_results
  rw [h, heads_first]

/-- The output's scales: the weights' scale times the values' channel scales. -/
theorem os_apply (n : Fin 6) (e : Fin 96) :
    (V m c main_v8 : S6x1x96.Idx → EReal) (ix3 n 0 e) = ps m c ix0 * vs m c (ix2 n e) := by
  have h : (V m c main_v8 : S6x1x96.Idx → EReal)
      = broadcastInDim S6x1x96 ![0, 2] bcast_S6x96_S6x1x96_0_2
          (mulf (F := Ideal) (φ := .f32) (broadcastInDim S6x96 ![] bcast_S_S6x96 (ps m c)) (vs m c)) := by
    show StableHlo.after hostOps0 (fun b => m (c, b)) (Proc.tc.devRef main_v8) = _
    after_results
  rw [h]
  refine (broadcastInDim_apply ![0, 2] _ _ (ix3 n (0 : Fin 1) e) (ix2 n e) fun a => by
    match a with
    | ⟨0, _⟩ => rfl
    | ⟨1, _⟩ => rfl).trans ?_
  exact congrArg (· * vs m c (ix2 n e)) (broadcastInDim_apply ![] _ _ _ ix0 fun a => a.elim0)

end Cert.KernelIdeal.Entry

end
-- ==== Proof.Array.lean ====
/-
  The array the kernel's pipelined region leaves, entry by entry: each grid point (batch element, key head) writes the five
  query heads of its group, and its block is read off the arguments through the windows of the six input arrays.
-/
module

public import proofs.«01_k».proof.Proof.Block
public import proofs.«01_k».proof.Proof.Entry

@[expose] public section

noncomputable section

namespace Cert.KernelIdeal.Array

open Cert.KernelIdeal Cert.KernelIdeal.Gen Idealize.ShloMosaic Idealize.ShloMosaic.TcCoe Idealize.SL.Sem
open Idealize.ShloMosaic.ValueIdx

/-! ## Where a window's block lies in its array

The block indices are read off the grid point's coordinates; there are 18 points, so each table is decided. -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 1) = 0 := (by decide +kernel : ∀ t : Fin grid0.N, _)
theorem idx2 : ∀ t : Fin cfg0.N, win0_2.index t (0 : Fin 5) = (grid0.coords t 0).val ∧ win0_2.index t (1 : Fin 5) = (grid0.coords t 1).val
    ∧ win0_2.index t (2 : Fin 5) = 0 ∧ win0_2.index t (3 : Fin 5) = 0 ∧ win0_2.index t (4 : Fin 5) = 0 :=
  (by decide +kernel : ∀ t : Fin grid0.N, _)
theorem idx3 : ∀ t : Fin cfg0.N, win0_3.index t (0 : Fin 4) = (grid0.coords t 0).val ∧ win0_3.index t (1 : Fin 4) = (grid0.coords t 1).val
    ∧ win0_3.index t (2 : Fin 4) = 0 ∧ win0_3.index t (3 : Fin 4) = 0 := (by decide +kernel : ∀ t : Fin grid0.N, _)
theorem idx4 : ∀ t : Fin cfg0.N, win0_4.index t (0 : Fin 4) = (grid0.coords t 0).val ∧ win0_4.index t (1 : Fin 4) = (grid0.coords t 1).val
    ∧ win0_4.index t (2 : Fin 4) = 0 ∧ win0_4.index t (3 : Fin 4) = 0 := (by decide +kernel : ∀ t : Fin grid0.N, _)
theorem idx5 : ∀ t : Fin cfg0.N, win0_5.index t (0 : Fin 3) = (grid0.coords t 1).val ∧ win0_5.index t (1 : Fin 3) = 0
    ∧ win0_5.index t (2 : Fin 3) = 0 := (by decide +kernel : ∀ t : Fin grid0.N, _)
theorem idx6 : ∀ t : Fin cfg0.N, win0_6.index t (0 : Fin 5) = (grid0.coords t 0).val ∧ win0_6.index t (1 : Fin 5) = (grid0.coords t 1).val
    ∧ win0_6.index t (2 : Fin 5) = 0 ∧ win0_6.index t (3 : Fin 5) = 0 ∧ win0_6.index t (4 : Fin 5) = 0 :=
  (by decide +kernel : ∀ t : Fin grid0.N, _)

section Places
variable (t : Fin cfg0.N)

/-- The scores' scales are staged whole. -/
theorem emb0 (n : Fin 6) (g : Fin 5) : ((cfg0.win 0).blk t).view.emb (ix2 n g) = ix2 n g := by
  obtain ⟨e0, e1⟩ := idx0 t
  funext a; apply Fin.ext
  match a with
  | ⟨0, _⟩ => show win0_0.index t (0 : Fin 2) * 6 + 1 * n.val = n.val; omega
  | ⟨1, _⟩ => show win0_0.index t (1 : Fin 2) * 5 + 1 * g.val = g.val; omega

/-- The weights' scale is staged whole. -/
theorem emb1 : ((cfg0.win 1).blk t).view.emb (ix1 (0 : Fin 1)) = ix1 (0 : Fin 1) := by
  have e0 := idx1 t
  funext a; apply Fin.ext
  match a with
  | ⟨0, _⟩ => show win0_1.index t (0 : Fin 1) * 1 + 1 * 0 = 0; omega

/-- A block of the queries is one group of query heads of one batch element. -/
theorem emb2 (g : Fin 5) (r : Fin 512) (e : Fin 96) :
    ((cfg0.win 2).blk t).view.emb (ix5 (0 : Fin 1) (0 : Fin 1) g r e) = ix5 (grid0.coords t 0) (grid0.coords t 1) g r e := by
  obtain ⟨e0, e1, e2, e3, e4⟩ := idx2 t
  funext a; apply Fin.ext
  match a with
  | ⟨0, _⟩ => show win0_2.index t (0 : Fin 5) * 1 + 1 * 0 = (grid0.coords t 0).val; omega
  | ⟨1, _⟩ => show win0_2.index t (1 : Fin 5) * 1 + 1 * 0 = (grid0.coords t 1).val; omega
  | ⟨2, _⟩ => show win0_2.index t (2 : Fin 5) * 5 + 1 * g.val = g.val; omega
  | ⟨3, _⟩ => show win0_2.index t (3 : Fin 5) * 512 + 1 * r.val = r.val; omega
  | ⟨4, _⟩ => show win0_2.index t (4 : Fin 5) * 96 + 1 * e.val = e.val; omega

/-- A block of the keys is one key head of one batch element. -/
theorem emb3 (r : Fin 512) (e : Fin 96) :
    ((cfg0.win 3).blk t).view.emb (ix4 (0 : Fin 1) (0 : Fin 1) r e) = ix4 (grid0.coords t 0) (grid0.coords t 1) r e := by
  obtain ⟨e0, e1, e2, e3⟩ := idx3 t
  funext a; apply Fin.ext
  match a with
  | ⟨0, _⟩ => show win0_3.index t (0 : Fin 4) * 1 + 1 * 0 = (grid0.coords t 0).val; omega
  | ⟨1, _⟩ => show win0_3.index t (1 : Fin 4) * 1 + 1 * 0 = (grid0.coords t 1).val; omega
  | ⟨2, _⟩ => show win0_3.index t (2 : Fin 4) * 512 + 1 * r.val = r.val; omega
  | ⟨3, _⟩ => show win0_3.index t (3 : Fin 4) * 96 + 1 * e.val = e.val; omega

/-- A block of the values is one key head of one batch element. -/
theorem emb4 (r : Fin 512) (e : Fin 96) :
    ((cfg0.win 4).blk t).view.emb (ix4 (0 : Fin 1) (0 : Fin 1) r e) = ix4 (grid0.coords t 0) (grid0.coords t 1) r e := by
  obtain ⟨e0, e1, e2, e3⟩ := idx4 t
  funext a; apply Fin.ext
  match a with
  | ⟨0, _⟩ => show win0_4.index t (0 : Fin 4) * 1 + 1 * 0 = (grid0.coords t 0).val; omega
  | ⟨1, _⟩ => show win0_4.index t (1 : Fin 4) * 1 + 1 * 0 = (grid0.coords t 1).val; omega
  | ⟨2, _⟩ => show win0_4.index t (2 : Fin 4) * 512 + 1 * r.val = r.val; omega
  | ⟨3, _⟩ => show win0_4.index t (3 : Fin 4) * 96 + 1 * e.val = e.val; omega

/-- A block of the output's scales is one key head's. -/
theorem emb5 (e : Fin 96) :
    ((cfg0.win 5).blk t).view.emb (ix3 (0 : Fin 1) (0 : Fin 1) e) = ix3 (grid0.coords t 1) (0 : Fin 1) e := by
  obtain ⟨e0, e1, e2⟩ := idx5 t
  funext a; apply Fin.ext
  match a with
  | ⟨0, _⟩ => show win0_5.index t (0 : Fin 3) * 1 + 1 * 0 = (grid0.coords t 1).val; omega
  | ⟨1, _⟩ => show win0_5.index t (1 : Fin 3) * 1 + 1 * 0 = 0; omega
  | ⟨2, _⟩ => show win0_5.index t (2 : Fin 3) * 96 + 1 * e.val = e.val; omega

/-- An output block is one group of query heads of one batch element. -/
theorem emb6 (y : S1x1x5x512x96.Idx) :
    ((cfg0.win 6).blk t).view.emb y = ix5 (grid0.coords t 0) (grid0.coords t 1) (y 2) (y 3) (y 4) := by
  obtain ⟨e0, e1, e2, e3, e4⟩ := idx6 t
  funext a; apply Fin.ext
  match a with
  | ⟨0, _⟩ =>
    have : (y 0).val < 1 := (y 0).isLt
    show win0_6.index t (0 : Fin 5) * 1 + 1 * (y 0).val = (grid0.coords t 0).val; omega
  | ⟨1, _⟩ =>
    have : (y 1).val < 1 := (y 1).isLt
    show win0_6.index t (1 : Fin 5) * 1 + 1 * (y 1).val = (grid0.coords t 1).val; omega
  | ⟨2, _⟩ => show win0_6.index t (2 : Fin 5) * 5 + 1 * (y 2).val = (y 2).val; omega
  | ⟨3, _⟩ => show win0_6.index t (3 : Fin 5) * 512 + 1 * (y 3).val = (y 3).val; omega
  | ⟨4, _⟩ => show win0_6.index t (4 : Fin 5) * 96 + 1 * (y 4).val = (y 4).val; omega

end Places

/-! ## The array -/

variable (m : (ℓ : Loc nD τ sig) → Buf (Elt Ideal) ℓ) (c : Dev nD)

/-- What the region's output array holds: at batch element `b`, key head `n`, query head `g` of its group, row `r` and channel
    `d`, the attention of query head `5 n + g`. -/
def final (i : S3x6x5x512x96.Idx) : Elt Ideal .bf16 :=
  Attend.attention (Entry.q m c) (Entry.qs m c) (Entry.k m c) (Entry.ks m c) (Entry.v m c) (Entry.vs m c) (Entry.ps m c)
    (i 0) (i 3) (Entry.queryHead (i 1) (i 2)) (i 4)

/-- The attention of query head `5 n + g`, its key head spelt `n`. -/
theorem attention_group (b : Fin 3) (n : Fin 6) (g : Fin 5) (r : Fin 512) (d : Fin 96) :
    final m c (ix5 b n g r d)
      = Attend.head (Entry.qs m c (ix1 (Entry.queryHead n g)) * Entry.ks m c (ix1 n) * Attend.rootScale) (Entry.ps m c ix0)
          (fun i e => Entry.q m c (ix4 b i (Entry.queryHead n g) e)) (fun j e => Entry.k m c (ix4 b j n e))
          (fun j e => Entry.v m c (ix4 b j n e)) (fun e => Entry.ps m c ix0 * Entry.vs m c (ix2 n e)) r d := by
  show Attend.attention (Entry.q m c) (Entry.qs m c) (Entry.k m c) (Entry.ks m c) (Entry.v m c) (Entry.vs m c) (Entry.ps m c)
    b r (Entry.queryHead n g) d = _
  unfold Attend.attention
  rw [Entry.keyHead_queryHead]

/-- What a grid point leaves in its output block, in terms of the arguments. -/
theorem outsAt_apply (t : Fin cfg0.N) (y : S1x1x5x512x96.Idx) :
    outsAt0 m c t y = final m c (ix5 (grid0.coords t 0) (grid0.coords t 1) (y 2) (y 3) (y 4)) := by
  rw [Block.outsAt_eq]
  unfold Block.block
  have h0 : iblk m c 0 t (ix2 (grid0.coords t 1) (y 2)) = _ :=
    (congrArg (V m c main_v5) (emb0 t _ _)).trans (Entry.scale_apply m c (grid0.coords t 1) (y 2))
  have h1 : iblk m c 1 t (ix1 (0 : Fin 1)) = _ := (congrArg (V m c main_v13) (emb1 t)).trans (Entry.ps_apply m c)
  have h2 : ∀ (r : Fin 512) (e : Fin 96), iblk m c 2 t (ix5 (0 : Fin 1) (0 : Fin 1) (y 2) r e) = _ := fun r e =>
    (congrArg (V m c main_v10) (emb2 t _ _ _)).trans (Entry.q_apply m c (grid0.coords t 0) (grid0.coords t 1) (y 2) r e)
  have h3 : ∀ (r : Fin 512) (e : Fin 96), iblk m c 3 t (ix4 (0 : Fin 1) (0 : Fin 1) r e) = _ := fun r e =>
    (congrArg (V m c main_v11) (emb3 t _ _)).trans (Entry.k_apply m c (grid0.coords t 0) (grid0.coords t 1) r e)
  have h4 : ∀ (r : Fin 512) (e : Fin 96), iblk m c 4 t (ix4 (0 : Fin 1) (0 : Fin 1) r e) = _ := fun r e =>
    (congrArg (V m c main_v12) (emb4 t _ _)).trans (Entry.v_apply m c (grid0.coords t 0) (grid0.coords t 1) r e)
  have h5 : ∀ e : Fin 96, iblk m c 5 t (ix3 (0 : Fin 1) (0 : Fin 1) e) = _ := fun e =>
    (congrArg (V m c main_v8) (emb5 t _)).trans (Entry.os_apply m c (grid0.coords t 1) e)
  have f2 := funext fun r => funext fun e => h2 r e
  have f3 := funext fun r => funext fun e => h3 r e
  have f4 := funext fun r => funext fun e => h4 r e
  have f5 := funext fun e => h5 e
  refine Eq.trans ?_ (attention_group m c (grid0.coords t 0) (grid0.coords t 1) (y 2) (y 3) (y 4)).symm
  exact (congrArg (fun s => Attend.head s _ _ _ _ _ (y 3) (y 4)) h0).trans
    ((congrArg (fun s => Attend.head _ s _ _ _ _ (y 3) (y 4)) h1).trans
    ((congrArg (fun s => Attend.head _ _ s _ _ _ (y 3) (y 4)) f2).trans
    ((congrArg (fun s => Attend.head _ _ _ s _ _ (y 3) (y 4)) f3).trans
    ((congrArg (fun s => Attend.head _ _ _ _ s _ (y 3) (y 4)) f4).trans
    (congrArg (fun s => Attend.head _ _ _ _ _ s (y 3) (y 4)) f5)))))

/-- What a grid point writes back is its block of `final`. -/
theorem flushed_eq (t : Fin cfg0.N) :
    (dats m 0 c).flushed 6 t = ((cfg0.win 6).blk t).view.read (Elt Ideal) (final m c) := by
  show (cfg0.win 6).cut (cfg0.grid.coords t) ((dats m 0 c).after 6 t) = _
  rw [after0_6]
  funext y
  show outsAt0 m c t y = final m c (((cfg0.win 6).blk t).view.emb y)
  rw [emb6]
  exact outsAt_apply m c t y

/-- Every batch element and key head has its grid point. -/
theorem point_of : ∀ (b : Fin 3) (n : Fin 6), ∃ t : Fin cfg0.N, (grid0.coords t 0).val = b.val ∧ (grid0.coords t 1).val = n.val :=
  (by decide +kernel : ∀ (b : Fin 3) (n : Fin 6), ∃ t : Fin grid0.N, (grid0.coords t 0).val = b.val ∧ (grid0.coords t 1).val = n.val)

/-- Every index of the array lies in some grid point's block. -/
theorem covered (i : S3x6x5x512x96.Idx) :
    ∃ t : Fin cfg0.N, (cfg0.win 6).flush t = true ∧ i ∈ ((cfg0.win 6).blk t).view.set := by
  obtain ⟨t, h0, h1⟩ := point_of (i 0) (i 1)
  refine ⟨t, flush0_6 t, ?_⟩
  have h := ((cfg0.win 6).blk t).view.emb_mem_set (ix5 (0 : Fin 1) (0 : Fin 1) (i 2) (i 3) (i 4))
  have e : ((cfg0.win 6).blk t).view.emb (ix5 (0 : Fin 1) (0 : Fin 1) (i 2) (i 3) (i 4)) = i :=
    (emb6 t _).trans ((congrArg₂ (fun b n => ix5 b n (i 2) (i 3) (i 4)) (Fin.ext h0) (Fin.ext h1)).trans (eq_ix5 i).symm)
  exact e ▸ h

/-- The region's output array after the run. -/
theorem arrAt_eq : (dats m 0 c).arrAt 6 cfg0.N = final m c :=
  (dats m 0 c).arrAt_eq_of_cover 6 (final m c) (fun t _ => flushed_eq m c t) covered

end Cert.KernelIdeal.Array

end
-- ==== Proof.KernelRun.lean ====
/-
  The run of the kernel's idealized program: its result array is `Attend.result` of the arguments, which end unchanged.
-/
module

public import proofs.«01_k».proof.Proof.Array

@[expose] public section

noncomputable section

namespace Cert.KernelIdeal.Run

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- The result, of the program's arguments. -/
def result : S3x512x2880.Idx → EReal :=
  Attend.result (Entry.q m c) (Entry.qs m c) (Entry.k m c) (Entry.ks m c) (Entry.v m c) (Entry.vs m c) (Entry.ps m c)

/-- The host lines after the region put the rows before the heads and join heads and channels. -/
theorem tail_apply (y : S3x512x2880.Idx) :
    shapeCast S3x512x2880 (transpose S3x512x6x5x96 [0, 3, 1, 2, 4] (Array.final m c)
      transposes_S3x6x5x512x96_S3x512x6x5x96_0_3_1_2_4) shapeCasts_S3x512x6x5x96_S3x512x2880 y = result m c y := by
  have hy : (y 2).val < 2880 := (y 2).isLt
  refine (shapeCast_apply _ _ _ (ix5 (y 0) (y 1) (⟨(y 2).val / 480, by omega⟩ : Fin 6) (⟨(y 2).val / 96 % 5, by omega⟩ : Fin 5)
    (⟨(y 2).val % 96, by omega⟩ : Fin 96)) ?_).trans ?_
  · rw [Shape.rowMajor_val_three, Shape.rowMajor_val_five]
    show ((((y 0).val * 512 + (y 1).val) * 6 + (y 2).val / 480) * 5 + (y 2).val / 96 % 5) * 96 + (y 2).val % 96
      = ((y 0).val * 512 + (y 1).val) * 2880 + (y 2).val
    omega
  · refine (transpose_apply _ _ _ _ (ix5 (y 0) (⟨(y 2).val / 480, by omega⟩ : Fin 6) (⟨(y 2).val / 96 % 5, by omega⟩ : Fin 5) (y 1)
      (⟨(y 2).val % 96, by omega⟩ : Fin 96)) fun a => ?_).trans ?_
    · match a with
      | ⟨0, _⟩ => rfl
      | ⟨1, _⟩ => rfl
      | ⟨2, _⟩ => rfl
      | ⟨3, _⟩ => rfl
      | ⟨4, _⟩ => rfl
    · show Attend.attention _ _ _ _ _ _ _ (y 0) (y 1) (Entry.queryHead ⟨(y 2).val / 480, _⟩ ⟨(y 2).val / 96 % 5, _⟩) _ = _
      refine congrArg (fun h => Attend.attention _ _ _ _ _ _ _ (y 0) (y 1) h _) (Fin.ext ?_)
      show (y 2).val / 480 * 5 + (y 2).val / 96 % 5 = (y 2).val / 96
      omega

/-- What the lines after the region leave in the result buffer. -/
theorem tail_eq : Pipeline.afterTail₀ cfgs (dats m) 0 (V0 m) [hostOps1] c main_v16 = result m c := by
  have h : Pipeline.withArrays spec0 c (V0 m c) (fun w => (dats m 0 c).arrAt w cfg0.N) (Proc.devRef .tc main_v14) = Array.final m c :=
    (Pipeline.withArrays_arr spec0 launch0.win.arr_inj c (V0 m c) _ 6).trans (Array.arrAt_eq m c)
  refine Eq.trans ?_ (funext (tail_apply m c))
  rw [← h]
  show StableHlo.after hostOps1 (Pipeline.withArrays spec0 c (V0 m c) (fun w => (dats m 0 c).arrAt w cfg0.N)) (Proc.devRef .tc main_v16) = _
  after_results
  rfl

/-- Every execution of the program ends with its result array at `result` and its arguments as launched. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
      ⟨((h.1 c).2 main_v16 (Pipeline.mem_restRefs_of main_v16 (by decide) (by decide))).trans (tail_eq m c), h.2 c⟩)
    (θ_run_and (run_main m ρ) (unchanged m ρ))

end Cert.KernelIdeal.Run

end
-- ==== Proof.RefUnit.lean ====
/-
  The reference's body, entry by entry, on the extended reals: for each of the 90 heads it is `Attend.head` of that head's
  queries, keys, values and scales.
-/
module

public import proofs.«01_k».proof.Proof.Attend
public import proofs.«01_k».proof.Proof.Gen.ReferenceIdeal.Skeleton
public import proofs.«01_k».proof.Proof.Gen.ReferenceIdeal
public import Idealize.ShloMosaic.Lib.ValueIdx
public import Idealize.ShloMosaic.Lib.WordCmp
public import Idealize.ShloMosaic.Lib.MatmulPlain
public import Idealize.ShloMosaic.Lib.Pipeline.Value

@[expose] public section

noncomputable section

open scoped BigOperators

namespace Cert.ReferenceIdeal.Unit

open Cert.ReferenceIdeal Cert.ReferenceIdeal.Gen Idealize.ShloMosaic Idealize.SL.Sem
open Idealize.ShloMosaic.ValueIdx Idealize.ShloMosaic.WordCmp

/-! ## The two batched products -/

/-- Queries times keys, head by head, summed over the channels. -/
theorem scores_apply (a b : FVec Ideal S90x512x96 .fp8e4m3) (h : Fin 90) (r c : Fin 512) :
    matmul dot_S90x512x96_S90x512x96_S90x512x512_2_2_1_1_0_0 none a b (constant (F := Ideal) S90x512x512 .f32 0x00000000#32) (ix3 h r c)
      = ∑ e : Fin 96, a (ix3 h r e) * b (ix3 h c e) := by
  show FloatOps.matmul dot_S90x512x96_S90x512x96_S90x512x512_2_2_1_1_0_0 none a b _ (ix3 h r c) = _
  rw [Ideal.matmul_apply, constant_apply, Attend.zero_word, zero_add,
    ← Equiv.sum_comp (contrEquiv1 dot_S90x512x96_S90x512x96_S90x512x512_2_2_1_1_0_0 96 rfl rfl).symm]
  refine Finset.sum_congr rfl fun e _ => ?_
  have ce := contrEquiv1_symm_val dot_S90x512x96_S90x512x96_S90x512x512_2_2_1_1_0_0 96 rfl rfl e
  have l : dot_S90x512x96_S90x512x96_S90x512x512_2_2_1_1_0_0.lhsIdx (ix3 h r c) ((contrEquiv1 _ 96 rfl rfl).symm e) = ix3 h r e := by
    funext ax; apply Fin.ext
    match ax with
    | ⟨0, _⟩ => rfl
    | ⟨1, _⟩ => rfl
    | ⟨2, _⟩ => exact ce
  have r' : dot_S90x512x96_S90x512x96_S90x512x512_2_2_1_1_0_0.rhsIdx (ix3 h r c) ((contrEquiv1 _ 96 rfl rfl).symm e) = ix3 h c e := by
    funext ax; apply Fin.ext
    match ax with
    | ⟨0, _⟩ => rfl
    | ⟨1, _⟩ => rfl
    | ⟨2, _⟩ => exact ce
  rw [l, r']

/-- Weights times values, head by head, summed over the columns. -/
theorem values_apply (a : FVec Ideal S90x512x512 .fp8e4m3) (b : FVec Ideal S90x512x96 .fp8e4m3) (h : Fin 90) (r : Fin 512) (d : Fin 96) :
    matmul dot_S90x512x512_S90x512x96_S90x512x96_2_1_1_2_0_0 none a b (constant (F := Ideal) S90x512x96 .f32 0x00000000#32) (ix3 h r d)
      = ∑ c : Fin 512, a (ix3 h r c) * b (ix3 h c d) := by
  show FloatOps.matmul dot_S90x512x512_S90x512x96_S90x512x96_2_1_1_2_0_0 none a b _ (ix3 h r d) = _
  rw [Ideal.matmul_apply, constant_apply, Attend.zero_word, zero_add,
    ← Equiv.sum_comp (contrEquiv1 dot_S90x512x512_S90x512x96_S90x512x96_2_1_1_2_0_0 512 rfl rfl).symm]
  refine Finset.sum_congr rfl fun c _ => ?_
  have cc := contrEquiv1_symm_val dot_S90x512x512_S90x512x96_S90x512x96_2_1_1_2_0_0 512 rfl rfl c
  have l : dot_S90x512x512_S90x512x96_S90x512x96_2_1_1_2_0_0.lhsIdx (ix3 h r d) ((contrEquiv1 _ 512 rfl rfl).symm c) = ix3 h r c := by
    funext ax; apply Fin.ext
    match ax with
    | ⟨0, _⟩ => rfl
    | ⟨1, _⟩ => rfl
    | ⟨2, _⟩ => exact cc
  have r' : dot_S90x512x512_S90x512x96_S90x512x96_2_1_1_2_0_0.rhsIdx (ix3 h r d) ((contrEquiv1 _ 512 rfl rfl).symm c) = ix3 h c d := by
    funext ax; apply Fin.ext
    match ax with
    | ⟨0, _⟩ => rfl
    | ⟨1, _⟩ => exact cc
    | ⟨2, _⟩ => rfl
  rw [l, r']

/-! ## The window's mask -/

/-- The mask on words: the column at most the row, and above the row minus 128, both signed. -/
theorem mask_word (r c : Fin 512) :
    IntOp.andi (IntOp.cmpi .sle (BitVec.ofNat 32 c.val) (BitVec.ofNat 32 r.val))
        (IntOp.cmpi .sgt (BitVec.ofNat 32 c.val) (BitVec.ofNat 32 r.val - 128#32))
      = BitVec.ofBool (decide (Attend.inBand r.val c.val)) := by
  have hr : (BitVec.ofNat 32 r.val).toInt = (r.val : Int) := toInt_ofNat_of_lt (by omega)
  have hc : (BitVec.ofNat 32 c.val).toInt = (c.val : Int) := toInt_ofNat_of_lt (by omega)
  have hd : (BitVec.ofNat 32 r.val - 128#32).toInt = (r.val : Int) - 128 := by
    rw [BitVec.toInt_sub, hr, show (128#32 : BitVec 32).toInt = 128 by decide]
    exact Int.bmod_eq_of_le (by omega) (by omega)
  rw [cmpi_sle_eq, cmpi_sgt_eq, andi_ofBool, hr, hc, hd, ← Bool.decide_and]
  refine congrArg BitVec.ofBool (decide_eq_decide.mpr ?_)
  unfold Attend.inBand
  omega

/-- The column numbers 0, …, 511, as the body builds them. -/
theorem columns_apply (r c : Fin 512) :
    broadcastTo S512x512 (shapeCast S1x512 (shapeCast S512 (iota .tc S1x512 32 [1] iota_S1x512_d1_w32) shapeCasts_S1x512_S512)
      shapeCasts_S512_S1x512) broadcasts_S1x512_S512x512 (ix2 r c) = BitVec.ofNat 32 c.val := by
  rw [broadcastTo_apply _ _ _ (ix2 0 c) (fun a => by match a with | ⟨0, _⟩ => rfl | ⟨1, _⟩ => rfl),
    shapeCast_apply _ _ _ (ix1 c) (by rw [Shape.rowMajor_val_one, Shape.rowMajor_val_two]; simp),
    shapeCast_apply _ _ _ (ix2 0 c) (by rw [Shape.rowMajor_val_one, Shape.rowMajor_val_two]; simp), iota_single_apply]

/-- The row numbers as a column. -/
theorem rows_apply (r : Fin 512) :
    shapeCast S512x1 (shapeCast S512 (iota .tc S1x512 32 [1] iota_S1x512_d1_w32) shapeCasts_S1x512_S512)
      shapeCasts_S512_S512x1 (ix2 r (0 : Fin 1)) = BitVec.ofNat 32 r.val := by
  rw [shapeCast_apply _ _ _ (ix1 r) (by rw [Shape.rowMajor_val_one, Shape.rowMajor_val_two]; simp),
    shapeCast_apply _ _ _ (ix2 0 r) (by rw [Shape.rowMajor_val_one, Shape.rowMajor_val_two]; simp), iota_single_apply]

/-- A column repeated over the columns of a square. -/
theorem repeat_apply (x : IVec S512x1 32) (r c : Fin 512) :
    broadcastTo S512x512 x broadcasts_S512x1_S512x512 (ix2 r c) = x (ix2 r (0 : Fin 1)) :=
  broadcastTo_apply _ _ _ _ fun a => by match a with | ⟨0, _⟩ => rfl | ⟨1, _⟩ => rfl

/-- A mask over rows and columns, repeated over the heads. -/
theorem mask_heads (x : IVec S512x512 1) (h : Fin 90) (r c : Fin 512) :
    broadcastTo S90x512x512 (shapeCast S1x512x512 x shapeCasts_S512x512_S1x512x512) broadcasts_S1x512x512_S90x512x512 (ix3 h r c) = x (ix2 r c) := by
  rw [broadcastTo_apply _ _ _ (ix3 0 r c) (fun a => by match a with | ⟨0, _⟩ => rfl | ⟨1, _⟩ => rfl | ⟨2, _⟩ => rfl)]
  exact shapeCast_apply _ _ _ _ (by rw [Shape.rowMajor_val_three, Shape.rowMajor_val_two]; simp)

/-! ## The scales, repeated -/

/-- A scale per head, repeated over rows and columns. -/
theorem scale_heads (x : FVec Ideal S90x1x1 .f32) (h : Fin 90) (r c : Fin 512) :
    broadcastTo S90x512x512 x broadcasts_S90x1x1_S90x512x512 (ix3 h r c) = x (ix3 h 0 0) :=
  broadcastTo_apply _ _ _ _ fun a => by match a with | ⟨0, _⟩ => rfl | ⟨1, _⟩ => rfl | ⟨2, _⟩ => rfl

/-- One scale, repeated over everything. -/
theorem scale_all (x : FVec Ideal S1x1x1 .f32) (h : Fin 90) (r c : Fin 512) :
    broadcastTo S90x512x512 x broadcasts_S1x1x1_S90x512x512 (ix3 h r c) = x (ix3 0 0 0) :=
  broadcastTo_apply _ _ _ _ fun a => by match a with | ⟨0, _⟩ => rfl | ⟨1, _⟩ => rfl | ⟨2, _⟩ => rfl

/-- A scale per head and channel, repeated over the rows. -/
theorem scale_channels (x : FVec Ideal S90x1x96 .f32) (h : Fin 90) (r : Fin 512) (d : Fin 96) :
    broadcastTo S90x512x96 x broadcasts_S90x1x96_S90x512x96 (ix3 h r d) = x (ix3 h 0 d) :=
  broadcastTo_apply _ _ _ _ fun a => by match a with | ⟨0, _⟩ => rfl | ⟨1, _⟩ => rfl | ⟨2, _⟩ => rfl

/-! ## The body -/

/-- The weights before the clip: the sigmoid of the scaled and shifted score where the mask is on, zero elsewhere, over the
    weights' scale. -/
theorem unclipped_apply (q k : Vec Ideal S90x512x96 .fp8e4m3) (ss : Vec Ideal S90x1x1 .f32) (ps : Vec Ideal S1x1x1 .f32)
    (h : Fin 90) (r c : Fin 512) :
    k0_pay2 (F := Ideal) q k ss ps (ix3 h r c)
      = (if Attend.inBand r.val c.val
          then Ideal.logistic ((∑ e : Fin 96, q (ix3 h r e) * k (ix3 h c e)) * ss (ix3 h 0 0) + Attend.bias) else (0 : EReal))
        * Ideal.div Attend.one (ps (ix3 0 0 0)) := by
  unfold k0_pay2
  simp only [shapeCast_self]
  rw [mulf_apply, scale_all]
  refine congrArg₂ (· * ·) ?_ rfl
  rw [select_apply]
  erw [mask_heads]
  have hm : andi (cmpi .sle (broadcastTo S512x512 (shapeCast S1x512 (shapeCast S512 (iota .tc S1x512 32 [1] iota_S1x512_d1_w32)
        shapeCasts_S1x512_S512) shapeCasts_S512_S1x512) broadcasts_S1x512_S512x512)
      (broadcastTo S512x512 (shapeCast S512x1 (shapeCast S512 (iota .tc S1x512 32 [1] iota_S1x512_d1_w32)
        shapeCasts_S1x512_S512) shapeCasts_S512_S512x1) broadcasts_S512x1_S512x512))
      (cmpi .sgt (broadcastTo S512x512 (shapeCast S1x512 (shapeCast S512 (iota .tc S1x512 32 [1] iota_S1x512_d1_w32)
        shapeCasts_S1x512_S512) shapeCasts_S512_S1x512) broadcasts_S1x512_S512x512)
      (broadcastTo S512x512 (subi (shapeCast S512x1 (shapeCast S512 (iota .tc S1x512 32 [1] iota_S1x512_d1_w32)
        shapeCasts_S1x512_S512) shapeCasts_S512_S512x1) (broadcast S512x1 128#32)) broadcasts_S512x1_S512x512)) (ix2 r c)
      = BitVec.ofBool (decide (Attend.inBand r.val c.val)) := by
    refine Eq.trans ?_ (mask_word r c)
    refine congrArg₂ IntOp.andi (congrArg₂ (IntOp.cmpi .sle) (columns_apply r c) ?_) (congrArg₂ (IntOp.cmpi .sgt) (columns_apply r c) ?_)
    · exact (repeat_apply _ r c).trans (rows_apply r)
    · exact (repeat_apply _ r c).trans (congrArg (· - 128#32) (rows_apply r))
  rw [hm]
  have hs : logistic (addf (mulf (matmul dot_S90x512x96_S90x512x96_S90x512x512_2_2_1_1_0_0 none q k
        (constant (F := Ideal) S90x512x512 .f32 0x00000000#32)) (broadcastTo S90x512x512 ss broadcasts_S90x1x1_S90x512x512))
        (broadcast S90x512x512 (FloatOps.ofBits (F := Ideal) .f32 0xC09B43D5#32))) (ix3 h r c)
      = Ideal.logistic ((∑ e : Fin 96, q (ix3 h r e) * k (ix3 h c e)) * ss (ix3 h 0 0) + Attend.bias) :=
    congrArg Ideal.logistic (congrArg (· + Attend.bias) (congrArg₂ (· * ·) (scores_apply q k h r c) (scale_heads ss h r c)))
  by_cases hb : Attend.inBand r.val c.val
  · rw [if_pos hb, decide_eq_true hb]
    exact hs
  · rw [if_neg hb, decide_eq_false hb]
    exact Attend.zero_word

/-- The body, entry by entry. -/
theorem body_apply (q k v : Vec Ideal S90x512x96 .fp8e4m3) (ss : Vec Ideal S90x1x1 .f32) (ps : Vec Ideal S1x1x1 .f32)
    (os : Vec Ideal S90x1x96 .f32) (h : Fin 90) (r : Fin 512) (d : Fin 96) :
    k0_pay1 (F := Ideal) (k0_pay2 q k ss ps) (Scalar.ofBits (F := Ideal) .f32 0x43E00000#32) k0_pay3 v os (ix3 h r d)
      = Attend.head (ss (ix3 h 0 0)) (ps (ix3 0 0 0)) (fun i e => q (ix3 h i e)) (fun j e => k (ix3 h j e))
          (fun j e => v (ix3 h j e)) (fun e => os (ix3 h 0 e)) r d := by
  unfold k0_pay1
  simp only [shapeCast_self]
  rw [truncf_apply, mulf_apply, scale_channels]
  unfold Attend.head
  refine congrArg (· * os (ix3 h 0 d)) ((values_apply _ v h r d).trans (Finset.sum_congr rfl fun c _ => ?_))
  refine congrArg (· * v (ix3 h c d)) ?_
  have hw : truncf (F := Ideal) .fp8e4m3 (minimumf (broadcast S90x512x512 (Scalar.ofBits (F := Ideal) .f32 0x43E00000#32))
        (maximumf (k0_pay3 (F := Ideal)) (k0_pay2 q k ss ps))) bitsLt_fp8e4m3_f32 (ix3 h r c)
      = min Attend.cap (max 0 (k0_pay2 (F := Ideal) q k ss ps (ix3 h r c))) := by
    rw [truncf_apply, minimumf_apply, maximumf_apply]
    exact congrArg (fun z => min Attend.cap (max z _)) Attend.zero_word
  refine hw.trans ?_
  rw [unclipped_apply]
  by_cases hb : Attend.inBand r.val c.val
  · rw [if_pos hb, if_pos hb]; rfl
  · rw [if_neg hb, if_neg hb]; exact Attend.clip_zero _

end Cert.ReferenceIdeal.Unit

end
-- ==== Proof.RefEntry.lean ====
/-
  What the reference's body finds in its six input arrays, entry by entry, in terms of the program's arguments: the host lines
  before the body only scale, repeat, transpose and reshape.
-/
module

public import proofs.«01_k».proof.Proof.Attend
public import proofs.«01_k».proof.Proof.Gen.ReferenceIdeal.Frame
public import Idealize.ShloMosaic.Lib.ValueIdx
public import Idealize.ShloMosaic.Lib.Pipeline.Value
public import Idealize.ShloMosaic.Lib.Claim

@[expose] public section

noncomputable section

namespace Cert.ReferenceIdeal.Entry

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ) (c : Dev nD)

/-- The arguments as launched. -/
abbrev q : S3x512x30x96.Idx → EReal := m ((c : Thread nD τ).loc main_arg0)
abbrev qs : S30.Idx → EReal := m ((c : Thread nD τ).loc main_arg1)
abbrev k : S3x512x6x96.Idx → EReal := m ((c : Thread nD τ).loc main_arg2)
abbrev ks : S6.Idx → EReal := m ((c : Thread nD τ).loc main_arg3)
abbrev v : S3x512x6x96.Idx → EReal := m ((c : Thread nD τ).loc main_arg4)
abbrev vs : S6x96.Idx → EReal := m ((c : Thread nD τ).loc main_arg5)
abbrev ps : S_.Idx → EReal := m ((c : Thread nD τ).loc main_arg6)

/-- Batch and query head as one number below 90. -/
def flat (b : Fin 3) (h : Fin 30) : Fin 90 := ⟨b.val * 30 + h.val, by omega⟩

/-- The query head's place in its key head's group. -/
def member (h : Fin 30) : Fin 5 := ⟨h.val % 5, by omega⟩

/-! ## Layouts -/

/-- The heads brought before the rows, batch and heads merged. -/
theorem heads_first (x : S3x512x30x96.Idx → EReal) (b : Fin 3) (h : Fin 30) (r : Fin 512) (e : Fin 96) :
    shapeCast S90x512x96 (transpose S3x30x512x96 [0, 2, 1, 3] x transposes_S3x512x30x96_S3x30x512x96_0_2_1_3)
        shapeCasts_S3x30x512x96_S90x512x96 (ix3 (flat b h) r e)
      = x (ix4 b r h e) := by
  refine (shapeCast_apply _ _ _ (ix4 b h r e) ?_).trans (transpose_apply _ _ _ _ (ix4 b r h e) fun a => ?_)
  · rw [Shape.rowMajor_val_four, Shape.rowMajor_val_three]
    rfl
  · match a with
    | ⟨0, _⟩ => rfl
    | ⟨1, _⟩ => rfl
    | ⟨2, _⟩ => rfl
    | ⟨3, _⟩ => rfl

/-- Each key head repeated for the five query heads of its group. -/
theorem groups (x : S3x512x6x96.Idx → EReal) (b : Fin 3) (r : Fin 512) (h : Fin 30) (e : Fin 96) :
    shapeCast S3x512x30x96 (broadcastInDim S3x512x6x5x96 ![0, 1, 2, 4] bcast_S3x512x6x96_S3x512x6x5x96_0_1_2_4 x)
        shapeCasts_S3x512x6x5x96_S3x512x30x96 (ix4 b r h e)
      = x (ix4 b r (Attend.keyHead h) e) := by
  refine (shapeCast_apply _ _ _ (ix5 b r (Attend.keyHead h) (member h) e) ?_).trans
    (broadcastInDim_apply ![0, 1, 2, 4] _ _ (ix5 b r (Attend.keyHead h) (member h) e) (ix4 b r (Attend.keyHead h) e) fun a => ?_)
  · rw [Shape.rowMajor_val_four, Shape.rowMajor_val_five]
    show (((b.val * 512 + r.val) * 6 + h.val / 5) * 5 + h.val % 5) * 96 + e.val = ((b.val * 512 + r.val) * 30 + h.val) * 96 + e.val
    omega
  · match a with
    | ⟨0, _⟩ => rfl
    | ⟨1, _⟩ => rfl
    | ⟨2, _⟩ => rfl
    | ⟨3, _⟩ => rfl

/-- A scale per query head, repeated over the batch. -/
theorem per_head (x : S30.Idx → EReal) (b : Fin 3) (h : Fin 30) :
    shapeCast S90x1x1 (broadcastInDim S3x30 ![1] bcast_S30_S3x30_1 x) shapeCasts_S3x30_S90x1x1 (ix3 (flat b h) 0 0) = x (ix1 h) := by
  refine (shapeCast_apply _ _ _ (ix2 b h) ?_).trans (broadcastInDim_apply ![1] _ _ (ix2 b h) (ix1 h) fun a => ?_)
  · rw [Shape.rowMajor_val_two, Shape.rowMajor_val_three]
    show b.val * 30 + h.val = ((b.val * 30 + h.val) * 1 + 0) * 1 + 0
    omega
  · match a with
    | ⟨0, _⟩ => rfl

/-- A query head's number splits into its group and its place in the group. -/
theorem joined (x : S6x5.Idx → EReal) (h : Fin 30) :
    shapeCast S30 x shapeCasts_S6x5_S30 (ix1 h) = x (ix2 (Attend.keyHead h) (member h)) := by
  refine shapeCast_apply _ _ _ _ ?_
  rw [Shape.rowMajor_val_two, Shape.rowMajor_val_one]
  show h.val / 5 * 5 + h.val % 5 = h.val
  omega

/-- The same, the other way round. -/
theorem split (x : S30.Idx → EReal) (h : Fin 30) :
    shapeCast S6x5 x shapeCasts_S30_S6x5 (ix2 (Attend.keyHead h) (member h)) = x (ix1 h) := by
  refine shapeCast_apply _ _ _ _ ?_
  rw [Shape.rowMajor_val_one, Shape.rowMajor_val_two]
  show h.val = h.val / 5 * 5 + h.val % 5
  omega

/-- A scale per key head, repeated over its group. -/
theorem per_group (x : S6.Idx → EReal) (n : Fin 6) (g : Fin 5) :
    broadcastInDim S6x5 ![0, 1] bcast_S6x1_S6x5_0_1 (broadcastInDim S6x1 ![0] bcast_S6_S6x1_0 x) (ix2 n g) = x (ix1 n) :=
  (broadcastInDim_apply ![0, 1] _ _ (ix2 n g) (ix2 n (0 : Fin 1)) fun a => by
    match a with
    | ⟨0, _⟩ => rfl
    | ⟨1, _⟩ => rfl).trans (broadcastInDim_apply ![0] _ _ _ (ix1 n) fun a => by
    match a with
    | ⟨0, _⟩ => rfl)

/-- A scale per query head and channel, repeated over the batch. -/
theorem per_head_channel (x : S30x96.Idx → EReal) (b : Fin 3) (h : Fin 30) (d : Fin 96) :
    shapeCast S90x1x96 (broadcastInDim S3x30x96 ![1, 2] bcast_S30x96_S3x30x96_1_2 x) shapeCasts_S3x30x96_S90x1x96
        (ix3 (flat b h) 0 d) = x (ix2 h d) := by
  refine (shapeCast_apply _ _ _ (ix3 b h d) ?_).trans (broadcastInDim_apply ![1, 2] _ _ (ix3 b h d) (ix2 h d) fun a => ?_)
  · rw [Shape.rowMajor_val_three, Shape.rowMajor_val_three]
    show (b.val * 30 + h.val) * 96 + d.val = ((b.val * 30 + h.val) * 1 + 0) * 96 + d.val
    omega
  · match a with
    | ⟨0, _⟩ => rfl
    | ⟨1, _⟩ => rfl

/-- A scale per key head and channel, repeated over its group. -/
theorem per_group_channel (x : S6x96.Idx → EReal) (h : Fin 30) (d : Fin 96) :
    shapeCast S30x96 (broadcastInDim S6x5x96 ![0, 2] bcast_S6x96_S6x5x96_0_2 x) shapeCasts_S6x5x96_S30x96 (ix2 h d)
      = x (ix2 (Attend.keyHead h) d) := by
  refine (shapeCast_apply _ _ _ (ix3 (Attend.keyHead h) (member h) d) ?_).trans
    (broadcastInDim_apply ![0, 2] _ _ (ix3 (Attend.keyHead h) (member h) d) (ix2 (Attend.keyHead h) d) fun a => ?_)
  · rw [Shape.rowMajor_val_two, Shape.rowMajor_val_three]
    show (h.val / 5 * 5 + h.val % 5) * 96 + d.val = h.val * 96 + d.val
    omega
  · match a with
    | ⟨0, _⟩ => rfl
    | ⟨1, _⟩ => rfl

/-! ## The six arrays -/

/-- The queries. -/
theorem q_apply (b : Fin 3) (h : Fin 30) (r : Fin 512) (e : Fin 96) :
    (V m c main_v9 : S90x512x96.Idx → EReal) (ix3 (flat b h) r e) = q m c (ix4 b r h e) := by
  have w : (V m c main_v9 : S90x512x96.Idx → EReal)
      = shapeCast S90x512x96 (transpose S3x30x512x96 [0, 2, 1, 3] (q m c) transposes_S3x512x30x96_S3x30x512x96_0_2_1_3)
          shapeCasts_S3x30x512x96_S90x512x96 := by
    show StableHlo.after hostOps0 (fun b => m (c, b)) (Proc.tc.devRef main_v9) = _
    after_results
    rfl
  rw [w, heads_first]

/-- The keys, repeated. -/
theorem k_apply (b : Fin 3) (h : Fin 30) (r : Fin 512) (e : Fin 96) :
    (V m c main_v13 : S90x512x96.Idx → EReal) (ix3 (flat b h) r e) = k m c (ix4 b r (Attend.keyHead h) e) := by
  have w : (V m c main_v13 : S90x512x96.Idx → EReal)
      = shapeCast S90x512x96 (transpose S3x30x512x96 [0, 2, 1, 3] (shapeCast S3x512x30x96
            (broadcastInDim S3x512x6x5x96 ![0, 1, 2, 4] bcast_S3x512x6x96_S3x512x6x5x96_0_1_2_4 (k m c))
            shapeCasts_S3x512x6x5x96_S3x512x30x96) transposes_S3x512x30x96_S3x30x512x96_0_2_1_3)
          shapeCasts_S3x30x512x96_S90x512x96 := by
    show StableHlo.after hostOps0 (fun b => m (c, b)) (Proc.tc.devRef main_v13) = _
    after_results
    rfl
  rw [w, heads_first, groups]

/-- The values, repeated. -/
theorem v_apply (b : Fin 3) (h : Fin 30) (r : Fin 512) (e : Fin 96) :
    (V m c main_v17 : S90x512x96.Idx → EReal) (ix3 (flat b h) r e) = v m c (ix4 b r (Attend.keyHead h) e) := by
  have w : (V m c main_v17 : S90x512x96.Idx → EReal)
      = shapeCast S90x512x96 (transpose S3x30x512x96 [0, 2, 1, 3] (shapeCast S3x512x30x96
            (broadcastInDim S3x512x6x5x96 ![0, 1, 2, 4] bcast_S3x512x6x96_S3x512x6x5x96_0_1_2_4 (v m c))
            shapeCasts_S3x512x6x5x96_S3x512x30x96) transposes_S3x512x30x96_S3x30x512x96_0_2_1_3)
          shapeCasts_S3x30x512x96_S90x512x96 := by
    show StableHlo.after hostOps0 (fun b => m (c, b)) (Proc.tc.devRef main_v17) = _
    after_results
    rfl
  rw [w, heads_first, groups]

/-- The scores' scales: the two scale arguments and the constant, multiplied. -/
theorem scale_apply (b : Fin 3) (h : Fin 30) :
    (V m c main_v20 : S90x1x1.Idx → EReal) (ix3 (flat b h) 0 0)
      = qs m c (ix1 h) * ks m c (ix1 (Attend.keyHead h)) * Attend.rootScale := by
  have w : (V m c main_v20 : S90x1x1.Idx → EReal)
      = shapeCast S90x1x1 (broadcastInDim S3x30 ![1] bcast_S30_S3x30_1 (shapeCast S30
          (mulf (F := Ideal) (φ := .f32) (mulf (shapeCast S6x5 (qs m c) shapeCasts_S30_S6x5)
            (broadcastInDim S6x5 ![0, 1] bcast_S6x1_S6x5_0_1 (broadcastInDim S6x1 ![0] bcast_S6_S6x1_0 (ks m c))))
            (broadcastInDim S6x5 ![] bcast_S_S6x5 (constant S_ .f32 0x3DD105EC#32))) shapeCasts_S6x5_S30))
          shapeCasts_S3x30_S90x1x1 := by
    show StableHlo.after hostOps0 (fun b => m (c, b)) (Proc.tc.devRef main_v20) = _
    after_results
    rfl
  rw [w, per_head, joined]
  exact congrArg₂ (· * ·) (congrArg₂ (· * ·) (split (qs m c) h) (per_group (ks m c) (Attend.keyHead h) (member h))) rfl

/-- The weights' scale. -/
theorem ps_apply : (V m c main_v25 : S1x1x1.Idx → EReal) (ix3 0 0 0) = ps m c ix0 := by
  have e : (V m c main_v25 : S1x1x1.Idx → EReal) = shapeCast S1x1x1 (ps m c) shapeCasts_S_S1x1x1 := by
    show StableHlo.after hostOps0 (fun b => m (c, b)) (Proc.tc.devRef main_v25) = _
    after_results
    rfl
  rw [e]
  exact shapeCast_apply _ _ _ _ rfl

/-- The output's scales: the weights' scale times the values' channel scales. -/
theorem os_apply (b : Fin 3) (h : Fin 30) (d : Fin 96) :
    (V m c main_v24 : S90x1x96.Idx → EReal) (ix3 (flat b h) 0 d) = ps m c ix0 * vs m c (ix2 (Attend.keyHead h) d) := by
  have w : (V m c main_v24 : S90x1x96.Idx → EReal)
      = shapeCast S90x1x96 (broadcastInDim S3x30x96 ![1, 2] bcast_S30x96_S3x30x96_1_2 (shapeCast S30x96
          (broadcastInDim S6x5x96 ![0, 2] bcast_S6x96_S6x5x96_0_2
            (mulf (F := Ideal) (φ := .f32) (broadcastInDim S6x96 ![] bcast_S_S6x96 (ps m c)) (vs m c)))
          shapeCasts_S6x5x96_S30x96)) shapeCasts_S3x30x96_S90x1x96 := by
    show StableHlo.after hostOps0 (fun b => m (c, b)) (Proc.tc.devRef main_v24) = _
    after_results
    rfl
  rw [w, per_head_channel, per_group_channel]
  exact congrArg (· * vs m c (ix2 (Attend.keyHead h) d)) (congrArg (ps m c) (funext fun a => a.elim0))

end Cert.ReferenceIdeal.Entry

end
-- ==== Proof.RefRun.lean ====
/-
  The run of the reference's idealized program: its result array is `Attend.result` of the arguments, which end unchanged.
-/
module

public import proofs.«01_k».proof.Proof.RefUnit
public import proofs.«01_k».proof.Proof.RefEntry

@[expose] public section

noncomputable section

namespace Cert.ReferenceIdeal.Run

open Cert.ReferenceIdeal Cert.ReferenceIdeal.Gen Idealize.ShloMosaic Idealize.ShloMosaic.TcCoe Idealize.SL.Sem
open Idealize.ShloMosaic.ValueIdx

/-! ## The one grid point's blocks are the whole arrays -/

/-! The block index is zero on every axis, so an index of a block is the same index of its array, and a block is its array. -/

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb0 (t : Fin cfg0.N) (j : S90x512x96.Idx) : ((cfg0.win 0).blk t).view.emb j = j := by
  obtain ⟨e0, e1, e2⟩ := idx0 t
  funext a; apply Fin.ext
  match a with
  | ⟨0, _⟩ => show win0_0.index t (0 : Fin 3) * 90 + 1 * (j 0).val = (j 0).val; omega
  | ⟨1, _⟩ => show win0_0.index t (1 : Fin 3) * 512 + 1 * (j 1).val = (j 1).val; omega
  | ⟨2, _⟩ => show win0_0.index t (2 : Fin 3) * 96 + 1 * (j 2).val = (j 2).val; omega

theorem emb1 (t : Fin cfg0.N) (j : S90x512x96.Idx) : ((cfg0.win 1).blk t).view.emb j = j := by
  obtain ⟨e0, e1, e2⟩ := idx1 t
  funext a; apply Fin.ext
  match a with
  | ⟨0, _⟩ => show win0_1.index t (0 : Fin 3) * 90 + 1 * (j 0).val = (j 0).val; omega
  | ⟨1, _⟩ => show win0_1.index t (1 : Fin 3) * 512 + 1 * (j 1).val = (j 1).val; omega
  | ⟨2, _⟩ => show win0_1.index t (2 : Fin 3) * 96 + 1 * (j 2).val = (j 2).val; omega

theorem emb2 (t : Fin cfg0.N) (j : S90x512x96.Idx) : ((cfg0.win 2).blk t).view.emb j = j := by
  obtain ⟨e0, e1, e2⟩ := idx2 t
  funext a; apply Fin.ext
  match a with
  | ⟨0, _⟩ => show win0_2.index t (0 : Fin 3) * 90 + 1 * (j 0).val = (j 0).val; omega
  | ⟨1, _⟩ => show win0_2.index t (1 : Fin 3) * 512 + 1 * (j 1).val = (j 1).val; omega
  | ⟨2, _⟩ => show win0_2.index t (2 : Fin 3) * 96 + 1 * (j 2).val = (j 2).val; omega

theorem emb3 (t : Fin cfg0.N) (j : S90x1x1.Idx) : ((cfg0.win 3).blk t).view.emb j = j := by
  obtain ⟨e0, e1, e2⟩ := idx3 t
  funext a; apply Fin.ext
  match a with
  | ⟨0, _⟩ => show win0_3.index t (0 : Fin 3) * 90 + 1 * (j 0).val = (j 0).val; omega
  | ⟨1, _⟩ => show win0_3.index t (1 : Fin 3) * 1 + 1 * (j 1).val = (j 1).val; omega
  | ⟨2, _⟩ => show win0_3.index t (2 : Fin 3) * 1 + 1 * (j 2).val = (j 2).val; omega

theorem emb4 (t : Fin cfg0.N) (j : S1x1x1.Idx) : ((cfg0.win 4).blk t).view.emb j = j := by
  obtain ⟨e0, e1, e2⟩ := idx4 t
  funext a; apply Fin.ext
  match a with
  | ⟨0, _⟩ => show win0_4.index t (0 : Fin 3) * 1 + 1 * (j 0).val = (j 0).val; omega
  | ⟨1, _⟩ => show win0_4.index t (1 : Fin 3) * 1 + 1 * (j 1).val = (j 1).val; omega
  | ⟨2, _⟩ => show win0_4.index t (2 : Fin 3) * 1 + 1 * (j 2).val = (j 2).val; omega

theorem emb5 (t : Fin cfg0.N) (j : S90x1x96.Idx) : ((cfg0.win 5).blk t).view.emb j = j := by
  obtain ⟨e0, e1, e2⟩ := idx5 t
  funext a; apply Fin.ext
  match a with
  | ⟨0, _⟩ => show win0_5.index t (0 : Fin 3) * 90 + 1 * (j 0).val = (j 0).val; omega
  | ⟨1, _⟩ => show win0_5.index t (1 : Fin 3) * 1 + 1 * (j 1).val = (j 1).val; omega
  | ⟨2, _⟩ => show win0_5.index t (2 : Fin 3) * 96 + 1 * (j 2).val = (j 2).val; omega

theorem emb6 (t : Fin cfg0.N) (j : S90x512x96.Idx) : ((cfg0.win 6).blk t).view.emb j = j := by
  obtain ⟨e0, e1, e2⟩ := idx6 t
  funext a; apply Fin.ext
  match a with
  | ⟨0, _⟩ => show win0_6.index t (0 : Fin 3) * 90 + 1 * (j 0).val = (j 0).val; omega
  | ⟨1, _⟩ => show win0_6.index t (1 : Fin 3) * 512 + 1 * (j 1).val = (j 1).val; omega
  | ⟨2, _⟩ => show win0_6.index t (2 : Fin 3) * 96 + 1 * (j 2).val = (j 2).val; omega

variable (m : (ℓ : Loc nD τ sig) → Buf (Elt Ideal) ℓ) (ρ : Dev nD → PrngReg) (c : Dev nD)

theorem iblk0_eq (t : Fin cfg0.N) : iblk m c 0 t = V m c main_v9 := by
  funext j; show V m c main_v9 (((cfg0.win 0).blk t).view.emb j) = V m c main_v9 j; rw [emb0]
theorem iblk1_eq (t : Fin cfg0.N) : iblk m c 1 t = V m c main_v13 := by
  funext j; show V m c main_v13 (((cfg0.win 1).blk t).view.emb j) = V m c main_v13 j; rw [emb1]
theorem iblk2_eq (t : Fin cfg0.N) : iblk m c 2 t = V m c main_v17 := by
  funext j; show V m c main_v17 (((cfg0.win 2).blk t).view.emb j) = V m c main_v17 j; rw [emb2]
theorem iblk3_eq (t : Fin cfg0.N) : iblk m c 3 t = V m c main_v20 := by
  funext j; show V m c main_v20 (((cfg0.win 3).blk t).view.emb j) = V m c main_v20 j; rw [emb3]
theorem iblk4_eq (t : Fin cfg0.N) : iblk m c 4 t = V m c main_v25 := by
  funext j; show V m c main_v25 (((cfg0.win 4).blk t).view.emb j) = V m c main_v25 j; rw [emb4]
theorem iblk5_eq (t : Fin cfg0.N) : iblk m c 5 t = V m c main_v24 := by
  funext j; show V m c main_v24 (((cfg0.win 5).blk t).view.emb j) = V m c main_v24 j; rw [emb5]

/-! ## The array the body leaves -/

/-- The body's one store, over the whole block, of what its whole-block loads compute. -/
theorem out_eq (x0 x1 x2 : Vec Ideal S90x512x96 .fp8e4m3) (x3 : Vec Ideal S90x1x1 .f32) (x4 : Vec Ideal S1x1x1 .f32)
    (x5 : Vec Ideal S90x1x96 .f32) :
    out0_6 (F := Ideal) x0 x1 x2 x3 x4 x5
      = k0_pay1 (F := Ideal) (k0_pay2 x0 x1 x3 x4) (Scalar.ofBits (F := Ideal) .f32 0x43E00000#32) k0_pay3 x2 x5 := by
  have hz : (![0, 0, 0] : Fin 3 → Nat) = fun _ => 0 := funext fun a => by fin_cases a <;> rfl
  unfold out0_6
  rw [View.canon_unit_zero hz, View.ld_unit_zero hz, View.ld_unit_zero hz, View.ld_unit_zero hz, View.ld_unit_zero hz,
    View.ld_unit_zero hz, View.ld_unit_zero hz]

/-- The output array: the body applied to the six arrays it finds. -/
def final : S90x512x96.Idx → EReal :=
  k0_pay1 (F := Ideal) (k0_pay2 (V m c main_v9) (V m c main_v13) (V m c main_v20) (V m c main_v25))
    (Scalar.ofBits (F := Ideal) .f32 0x43E00000#32) k0_pay3 (V m c main_v17) (V m c main_v24)

theorem flushed_eq (t : Fin cfg0.N) : (dats m 0 c).flushed 6 t = ((cfg0.win 6).blk t).view.read (Elt Ideal) (final m c) := by
  show (cfg0.win 6).cut (cfg0.grid.coords t) ((dats m 0 c).after 6 t) = _
  rw [after0_6, iblk0_eq, iblk1_eq, iblk2_eq, iblk3_eq, iblk4_eq, iblk5_eq, out_eq]
  funext y
  show final m c y = final m c (((cfg0.win 6).blk t).view.emb y)
  rw [emb6]

theorem covered (i : S90x512x96.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

theorem arrAt_eq : (dats m 0 c).arrAt 6 cfg0.N = final m c :=
  (dats m 0 c).arrAt_eq_of_cover 6 (final m c) (fun t _ => flushed_eq m c t) covered

/-- Its entries, in terms of the arguments. -/
theorem final_apply (b : Fin 3) (h : Fin 30) (r : Fin 512) (d : Fin 96) :
    final m c (ix3 (Entry.flat b h) r d)
      = Attend.attention (Entry.q m c) (Entry.qs m c) (Entry.k m c) (Entry.ks m c) (Entry.v m c) (Entry.vs m c) (Entry.ps m c) b r h d := by
  refine (Unit.body_apply _ _ _ _ _ _ _ r d).trans ?_
  have f2 := funext fun r => funext fun e => Entry.q_apply m c b h r e
  have f3 := funext fun r => funext fun e => Entry.k_apply m c b h r e
  have f4 := funext fun r => funext fun e => Entry.v_apply m c b h r e
  have f5 := funext fun e => Entry.os_apply m c b h e
  exact (congrArg (fun s => Attend.head s _ _ _ _ _ r d) (Entry.scale_apply m c b h)).trans
    ((congrArg (fun s => Attend.head _ s _ _ _ _ r d) (Entry.ps_apply m c)).trans
    ((congrArg (fun s => Attend.head _ _ s _ _ _ r d) f2).trans
    ((congrArg (fun s => Attend.head _ _ _ s _ _ r d) f3).trans
    ((congrArg (fun s => Attend.head _ _ _ _ s _ r d) f4).trans
    (congrArg (fun s => Attend.head _ _ _ _ _ s r d) f5)))))

/-! ## The run -/

/-- The result, of the program's arguments. -/
def result : S3x512x2880.Idx → EReal :=
  Attend.result (Entry.q m c) (Entry.qs m c) (Entry.k m c) (Entry.ks m c) (Entry.v m c) (Entry.vs m c) (Entry.ps m c)

/-- Batch and heads taken apart again. -/
theorem unmerge (x : S90x512x96.Idx → EReal) (b : Fin 3) (h : Fin 30) (r : Fin 512) (d : Fin 96) :
    shapeCast S3x30x512x96 x shapeCasts_S90x512x96_S3x30x512x96 (ix4 b h r d) = x (ix3 (Entry.flat b h) r d) := by
  refine shapeCast_apply _ _ _ _ ?_
  rw [Shape.rowMajor_val_three, Shape.rowMajor_val_four]
  rfl

/-- The host lines after the body put the rows before the heads and join heads and channels. -/
theorem tail_apply (y : S3x512x2880.Idx) :
    shapeCast S3x512x2880 (transpose S3x512x30x96 [0, 2, 1, 3] (shapeCast S3x30x512x96 (final m c) shapeCasts_S90x512x96_S3x30x512x96)
      transposes_S3x30x512x96_S3x512x30x96_0_2_1_3) shapeCasts_S3x512x30x96_S3x512x2880 y = result m c y := by
  have hy : (y 2).val < 2880 := (y 2).isLt
  refine (shapeCast_apply _ _ _ (ix4 (y 0) (y 1) (⟨(y 2).val / 96, by omega⟩ : Fin 30) (⟨(y 2).val % 96, by omega⟩ : Fin 96)) ?_).trans ?_
  · rw [Shape.rowMajor_val_three, Shape.rowMajor_val_four]
    show (((y 0).val * 512 + (y 1).val) * 30 + (y 2).val / 96) * 96 + (y 2).val % 96
      = ((y 0).val * 512 + (y 1).val) * 2880 + (y 2).val
    omega
  · refine (transpose_apply _ _ _ _ (ix4 (y 0) (⟨(y 2).val / 96, by omega⟩ : Fin 30) (y 1) (⟨(y 2).val % 96, by omega⟩ : Fin 96))
      fun a => ?_).trans ?_
    · match a with
      | ⟨0, _⟩ => rfl
      | ⟨1, _⟩ => rfl
      | ⟨2, _⟩ => rfl
      | ⟨3, _⟩ => rfl
    · exact (unmerge _ (y 0) ⟨(y 2).val / 96, by omega⟩ (y 1) ⟨(y 2).val % 96, by omega⟩).trans
        (final_apply m c (y 0) ⟨(y 2).val / 96, by omega⟩ (y 1) ⟨(y 2).val % 96, by omega⟩)

/-- What the lines after the body leave in the result buffer. -/
theorem tail_eq : Pipeline.afterTail₀ cfgs (dats m) 0 (V0 m) [hostOps1] c main_v29 = result m c := by
  have h : Pipeline.withArrays spec0 c (V0 m c) (fun w => (dats m 0 c).arrAt w cfg0.N) (Proc.devRef .tc main_v26) = final m c :=
    (Pipeline.withArrays_arr spec0 launch0.win.arr_inj c (V0 m c) _ 6).trans (arrAt_eq m c)
  refine Eq.trans ?_ (funext (tail_apply m c))
  rw [← h]
  show StableHlo.after hostOps1 (Pipeline.withArrays spec0 c (V0 m c) (fun w => (dats m 0 c).arrAt w cfg0.N)) (Proc.devRef .tc main_v29) = _
  after_results
  rfl

/-- Every execution of the program ends with its result array at `result` and its arguments as launched. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
      ⟨((h.1 c).2 main_v29 (Pipeline.mem_restRefs_of main_v29 (by decide) (by decide))).trans (tail_eq m c), h.2 c⟩)
    (θ_run_and (run_main m ρ) (unchanged m ρ))

end Cert.ReferenceIdeal.Run

end
-- ==== Proof.lean ====
/-
  The proof of `Cert.Claim`: the three programs run, leave their arguments unchanged and end with every semaphore at zero; the
  idealization rewrote nothing; and on the extended reals the kernel's result equals the reference's, whatever the arguments.
  Both results are `Attend.result` of the arguments (`Cert.KernelIdeal.Run.run`, `Cert.ReferenceIdeal.Run.run`), the windowed
  sigmoid attention written once, without blocks (Proof/Attend.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.RefRun
public import Idealize.ShloMosaic.Adequacy
public import Idealize.ShloMosaic.Init

@[expose] public section

noncomputable section

namespace Cert.Proof

open Idealize.ShloMosaic Idealize.SL.Sem

/-- The two programs, launched on the same arguments, end with the same result. -/
theorem same_result : Cert.algebraic_KernelIdeal_ReferenceIdeal (hKernelIdeal := Cert.KernelIdeal.Gen.facts)
    (hReferenceIdeal := Cert.ReferenceIdeal.Gen.facts) := by
  intro m ρ m' ρ' _ agree
  refine ⟨fun c => Cert.KernelIdeal.Run.result m c, Cert.KernelIdeal.Run.run m ρ,
    (θ_run Cert.ReferenceIdeal.defs _ _).mono (fun _ h c => ⟨(h c).1.trans ?_, (h c).2⟩) (Cert.ReferenceIdeal.Run.run m' ρ')⟩
  obtain ⟨a0, a1, a2, a3, a4, a5, a6⟩ := agree c
  unfold Cert.ReferenceIdeal.Run.result Cert.ReferenceIdeal.Entry.q Cert.ReferenceIdeal.Entry.qs Cert.ReferenceIdeal.Entry.k
    Cert.ReferenceIdeal.Entry.ks Cert.ReferenceIdeal.Entry.v Cert.ReferenceIdeal.Entry.vs Cert.ReferenceIdeal.Entry.ps
  rw [a0, a1, a2, a3, a4, a5, a6]
  rfl

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, same_result⟩

end Cert.Proof

end
